-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ready [hPre_ready : Cert.Pre_ready.Facts] (m : (ℓ : Loc Cert.KernelIdeal.nD Cert.KernelIdeal.τ Cert.KernelIdeal.sig) → Buf (Elt Ideal) ℓ) : Prop :=
  ∀ c : Dev Cert.KernelIdeal.nD,
    (Cert.Pre_ready.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ready [hPre_ready : Cert.Pre_ready.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ready.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ready [hKernelIdeal : Cert.KernelIdeal.Facts] [hPre_ready : Cert.Pre_ready.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ready m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ready [hReferenceIdeal : Cert.ReferenceIdeal.Facts] [hPre_ready : Cert.Pre_ready.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ready m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ready [hKernelIdeal : Cert.KernelIdeal.Facts] [hReferenceIdeal : Cert.ReferenceIdeal.Facts] [hPre_ready : Cert.Pre_ready.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ready m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ready : Cert.Pre_ready.Facts),
    quiescent_Kernel (hKernel := hKernel)
    ∧ quiescent_KernelIdeal (hKernelIdeal := hKernelIdeal)
    ∧ quiescent_KernelIdeal_pre_ready (hKernelIdeal := hKernelIdeal) (hPre_ready := hPre_ready)
    ∧ quiescent_ReferenceIdeal (hReferenceIdeal := hReferenceIdeal)
    ∧ quiescent_ReferenceIdeal_pre_ready (hReferenceIdeal := hReferenceIdeal) (hPre_ready := hPre_ready)
    ∧ preserves_Kernel_KernelIdeal
    ∧ algebraic_KernelIdeal_ReferenceIdeal_pre_ready (hKernelIdeal := hKernelIdeal) (hReferenceIdeal := hReferenceIdeal) (hPre_ready := hPre_ready)
-- ==== Pre_ready.lean ====
abbrev S1x2048x2048 : Shape := ⟨3, ![1, 2048, 2048]⟩
abbrev S1x1x2048 : Shape := ⟨3, ![1, 1, 2048]⟩
abbrev S16 : Shape := ⟨1, ![16]⟩
abbrev S_ : Shape := ⟨0, ![]⟩

class Facts : Prop where
  bcast_S1x1x2048_S1x2048x2048_0_1_2 : S1x1x2048.BroadcastsInDim S1x2048x2048 (![0, 1, 2] : Fin 3 → Fin S1x2048x2048.rank)
  bcast_S_S1x2048x2048 : S_.BroadcastsInDim S1x2048x2048 (![] : Fin 0 → Fin S1x2048x2048.rank)
  reducesTo_S16_S_d0 : S16.ReducesTo [0] S_
  h_S_ : 0 < S_.numel
  bcast_S_S1x1x2048 : S_.BroadcastsInDim S1x1x2048 (![] : Fin 0 → Fin S1x1x2048.rank)
  reducesTo_S1x1x2048_S_d0_1_2 : S1x1x2048.ReducesTo [0, 1, 2] S_
  reducesTo_S1x2048x2048_S_d0_1_2 : S1x2048x2048.ReducesTo [0, 1, 2] S_

variable [Facts]

noncomputable abbrev lit0 : Fin 16 → BitVec 32 := fun
  | 0 => 0xC0C00000#32 | 1 => 0xC0800000#32 | 2 => 0xC0400000#32 | 3 => 0xC0000000#32 | 4 => 0xBFC00000#32 | 5 => 0xBF800000#32 | 6 => 0xBF000000#32 | 7 => 0x80000000#32
  | 8 => 0x00000000#32 | 9 => 0x3F000000#32 | 10 => 0x3F800000#32 | 11 => 0x3FC00000#32 | 12 => 0x40000000#32 | 13 => 0x40400000#32 | 14 => 0x40800000#32 | 15 => 0x40C00000#32
  | _ => 0#32

def fn_part2 {F : FTy → Type} [FloatOps F] (main_v31 : IVec S_ 1) (main_v33 : IVec S_ 1) : IVec S_ 1 :=
  let main_v34 : IVec S_ 1 := andi main_v31 main_v33
  main_v34

def fn_part1 {F : FTy → Type} [FloatOps F] (main_arg0 : FVec F S1x2048x2048 .f32) (main_arg1 : FVec F S1x1x2048 .f32) (main_arg2 : FVec F S16 .f32) (main_cst : FVec F S16 .f32) (main_v1 : FVec F S1x2048x2048 .f32) (main_v15 : IVec S1x2048x2048 1) (main_v16 : FVec F S1x2048x2048 .f32) : IVec S_ 1 :=
  let main_v17 : IVec S1x2048x2048 1 := cmpf .oeq main_v1 main_v16
  let main_v18 : IVec S1x2048x2048 1 := ori main_v15 main_v17
  let main_cst_6 : FVec F S_ .f32 := constant S_ .f32 0xC0200000#32
  let main_v19 : FVec F S1x2048x2048 .f32 := broadcastInDim S1x2048x2048 ![] bcast_S_S1x2048x2048 main_cst_6
  let main_v20 : IVec S1x2048x2048 1 := cmpf .oeq main_v1 main_v19
  let main_v21 : IVec S1x2048x2048 1 := ori main_v18 main_v20
  let main_v22 : IVec S16 1 := cmpf .oeq main_arg2 main_cst
  let main_c : IVec S_ 1 := constantI S_ 1 1#1
  let main_v23 : IVec S_ 1 := (fun x v => Host.reduce IntOp.andi x v reducesTo_S16_S_d0 h_S_) main_v22 main_c
  let main_cst_7 : FVec F S_ .f32 := constant S_ .f32 0x00000000#32
  let main_v24 : FVec F S1x1x2048 .f32 := broadcastInDim S1x1x2048 ![] bcast_S_S1x1x2048 main_cst_7
  let main_v25 : IVec S1x1x2048 1 := cmpf .oge main_arg1 main_v24
  let main_c_8 : IVec S_ 1 := constantI S_ 1 1#1
  let main_v26 : IVec S_ 1 := (fun x v => Host.reduce IntOp.andi x v reducesTo_S1x1x2048_S_d0_1_2 h_S_) main_v25 main_c_8
  let main_v27 : IVec S_ 1 := andi main_v23 main_v26
  let main_cst_9 : FVec F S_ .f32 := constant S_ .f32 0x7F800000#32
  let main_v28 : FVec F S1x2048x2048 .f32 := broadcastInDim S1x2048x2048 ![] bcast_S_S1x2048x2048 main_cst_9
  let main_v29 : IVec S1x2048x2048 1 := cmpf .olt main_arg0 main_v28
  let main_c_10 : IVec S_ 1 := constantI S_ 1 1#1
  let main_v30 : IVec S_ 1 := (fun x v => Host.reduce IntOp.andi x v reducesTo_S1x2048x2048_S_d0_1_2 h_S_) main_v29 main_c_10
  let main_v31 : IVec S_ 1 := andi main_v27 main_v30
  let main_v32 : IVec S1x2048x2048 1 := noti main_v21
  let main_c_11 : IVec S_ 1 := constantI S_ 1 1#1
  let main_v33 : IVec S_ 1 := (fun x v => Host.reduce IntOp.andi x v reducesTo_S1x2048x2048_S_d0_1_2 h_S_) main_v32 main_c_11
  fn_part2 (F := F) main_v31 main_v33

def fn {F : FTy → Type} [FloatOps F] (main_arg0 : FVec F S1x2048x2048 .f32) (main_arg1 : FVec F S1x1x2048 .f32) (main_arg2 : FVec F S16 .f32) : IVec S_ 1 :=
  let main_cst : FVec F S16 .f32 := fun i => FloatOps.ofBits .f32 (lit0 (S16.rowMajor i))
  let main_v0 : FVec F S1x2048x2048 .f32 := broadcastInDim S1x2048x2048 ![0, 1, 2] bcast_S1x1x2048_S1x2048x2048_0_1_2 main_arg1
  let main_v1 : FVec F S1x2048x2048 .f32 := Host.divf main_arg0 main_v0
  let main_cst_0 : FVec F S_ .f32 := constant S_ .f32 0x3F400000#32
  let main_v2 : FVec F S1x2048x2048 .f32 := broadcastInDim S1x2048x2048 ![] bcast_S_S1x2048x2048 main_cst_0
  let main_v3 : IVec S1x2048x2048 1 := cmpf .oeq main_v1 main_v2
  let main_cst_1 : FVec F S_ .f32 := constant S_ .f32 0x3FE00000#32
  let main_v4 : FVec F S1x2048x2048 .f32 := broadcastInDim S1x2048x2048 ![] bcast_S_S1x2048x2048 main_cst_1
  let main_v5 : IVec S1x2048x2048 1 := cmpf .oeq main_v1 main_v4
  let main_v6 : IVec S1x2048x2048 1 := ori main_v3 main_v5
  let main_cst_2 : FVec F S_ .f32 := constant S_ .f32 0x40600000#32
  let main_v7 : FVec F S1x2048x2048 .f32 := broadcastInDim S1x2048x2048 ![] bcast_S_S1x2048x2048 main_cst_2
  let main_v8 : IVec S1x2048x2048 1 := cmpf .oeq main_v1 main_v7
  let main_v9 : IVec S1x2048x2048 1 := ori main_v6 main_v8
  let main_cst_3 : FVec F S_ .f32 := constant S_ .f32 0x40A00000#32
  let main_v10 : FVec F S1x2048x2048 .f32 := broadcastInDim S1x2048x2048 ![] bcast_S_S1x2048x2048 main_cst_3
  let main_v11 : IVec S1x2048x2048 1 := cmpf .oeq main_v1 main_v10
  let main_v12 : IVec S1x2048x2048 1 := ori main_v9 main_v11
  let main_cst_4 : FVec F S_ .f32 := constant S_ .f32 0xBE800000#32
  let main_v13 : FVec F S1x2048x2048 .f32 := broadcastInDim S1x2048x2048 ![] bcast_S_S1x2048x2048 main_cst_4
  let main_v14 : IVec S1x2048x2048 1 := cmpf .oeq main_v1 main_v13
  let main_v15 : IVec S1x2048x2048 1 := ori main_v12 main_v14
  let main_cst_5 : FVec F S_ .f32 := constant S_ .f32 0xBFA00000#32
  let main_v16 : FVec F S1x2048x2048 .f32 := broadcastInDim S1x2048x2048 ![] bcast_S_S1x2048x2048 main_cst_5
  fn_part1 (F := F) main_arg0 main_arg1 main_arg2 main_cst main_v1 main_v15 main_v16
-- ==== Kernel.lean ====
abbrev S1x2048x2048 : Shape := ⟨3, ![1, 2048, 2048]⟩
abbrev S1x1x2048 : Shape := ⟨3, ![1, 1, 2048]⟩
abbrev S16 : Shape := ⟨1, ![16]⟩
abbrev S2048x2048 : Shape := ⟨2, ![2048, 2048]⟩
abbrev S2048 : Shape := ⟨1, ![2048]⟩
abbrev S2x8x2048 : Shape := ⟨3, ![2, 8, 2048]⟩
abbrev S_ : Shape := ⟨0, ![]⟩
abbrev S1x8x2048 : Shape := ⟨3, ![1, 8, 2048]⟩
abbrev S8x2048 : Shape := ⟨2, ![8, 2048]⟩
abbrev S1x1x16 : Shape := ⟨3, ![1, 1, 16]⟩
abbrev S1x2048 : Shape := ⟨2, ![1, 2048]⟩
abbrev S256x2048 : Shape := ⟨2, ![256, 2048]⟩

abbrev nBuf : Table → Nat
  | .hbm => 9
  | .local .tc .vmem => 5
  | .local .scVector .vmem => 4
  | _ => 0

abbrev bufTy : (tb : Table) → Fin (nBuf tb) → BufTy
  | .hbm, ⟨0, _⟩ => ⟨S1x2048x2048, .f32⟩
  | .hbm, ⟨1, _⟩ => ⟨S1x1x2048, .f32⟩
  | .hbm, ⟨2, _⟩ => ⟨S16, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S1x2048, .f32⟩
  | .hbm, ⟨7, _⟩ => ⟨S2048x2048, .f32⟩
  | .hbm, ⟨8, _⟩ => ⟨S1x2048x2048, .f32⟩
  | .local .tc .vmem, ⟨0, _⟩ => ⟨S256x2048, .f32⟩
  | .local .tc .vmem, ⟨1, _⟩ => ⟨S256x2048, .f32⟩
  | .local .tc .vmem, ⟨2, _⟩ => ⟨S1x2048, .f32⟩
  | .local .tc .vmem, ⟨3, _⟩ => ⟨S256x2048, .f32⟩
  | .local .tc .vmem, ⟨4, _⟩ => ⟨S256x2048, .f32⟩
  | .local .scVector .vmem, ⟨0, _⟩ => ⟨S2048, .f32⟩
  | .local .scVector .vmem, ⟨1, _⟩ => ⟨S2048, .f32⟩
  | .local .scVector .vmem, ⟨2, _⟩ => ⟨S2x8x2048, .f32⟩
  | .local .scVector .vmem, ⟨3, _⟩ => ⟨S2x8x2048, .f32⟩
  | _, _ => ⟨S1x2048x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v899 : BitVec 32 := Scalar.addi v2 c0_i32
  let c0_i32_258 : BitVec 32 := 0#32
  ![v899.toNat, 0]
@[reducible] def k0_t1_loop : Scf.Loop 32 :=
  let c0_i32_270 : BitVec 32 := 0#32
  let c128_i32 : BitVec 32 := 128#32
  let v913 : BitVec 32 := Scalar.addi c0_i32_270 c128_i32
  let c1_i32 : BitVec 32 := 1#32
  ⟨c0_i32_270, v913, c1_i32⟩
def k0_off2 (k0_t1 : Fin k0_t1_loop.trips) : Fin 1 → Nat :=
  let c0_i32_289 : BitVec 32 := 0#32
  let c0_i32_270 : BitVec 32 := 0#32
  let c1_i32 : BitVec 32 := 1#32
  let arg13 : BitVec 32 := Scf.iv c0_i32_270 c1_i32 k0_t1
  let c1_i32_288 : BitVec 32 := 1#32
  let v928 : BitVec 32 := Scalar.muli arg13 c1_i32_288
  let v929 : BitVec 32 := Scalar.addi c0_i32_289 v928
  let c16_i32 : BitVec 32 := 16#32
  let v930 : BitVec 32 := Scalar.muli v929 c16_i32
  let v931 : Index := Scalar.indexCast v930
  ![v931.toNat]
def k0_off3 (k0_t1 : Fin k0_t1_loop.trips) : Fin 3 → Nat :=
  let c0_i32_290 : BitVec 32 := 0#32
  let v937 : Index := Scalar.indexCast c0_i32_290
  let c0_i32_291 : BitVec 32 := 0#32
  let v938 : Index := Scalar.indexCast c0_i32_291
  let c0_i32_289 : BitVec 32 := 0#32
  let c0_i32_270 : BitVec 32 := 0#32
  let c1_i32 : BitVec 32 := 1#32
  let arg13 : BitVec 32 := Scf.iv c0_i32_270 c1_i32 k0_t1
  let c1_i32_288 : BitVec 32 := 1#32
  let v928 : BitVec 32 := Scalar.muli arg13 c1_i32_288
  let v929 : BitVec 32 := Scalar.addi c0_i32_289 v928
  let c16_i32 : BitVec 32 := 16#32
  let v930 : BitVec 32 := Scalar.muli v929 c16_i32
  let v939 : Index := Scalar.indexCast v930
  ![0, 0, v939.toNat]
def k0_off4 (k0_t1 : Fin k0_t1_loop.trips) : Fin 3 → Nat :=
  let c0_i32_302 : BitVec 32 := 0#32
  let v972 : Index := Scalar.indexCast c0_i32_302
  let c1_i32_303 : BitVec 32 := 1#32
  let v973 : Index := Scalar.indexCast c1_i32_303
  let c0_i32_289 : BitVec 32 := 0#32
  let c0_i32_270 : BitVec 32 := 0#32
  let c1_i32 : BitVec 32 := 1#32
  let arg13 : BitVec 32 := Scf.iv c0_i32_270 c1_i32 k0_t1
  let c1_i32_288 : BitVec 32 := 1#32
  let v928 : BitVec 32 := Scalar.muli arg13 c1_i32_288
  let v929 : BitVec 32 := Scalar.addi c0_i32_289 v928
  let c16_i32 : BitVec 32 := 16#32
  let v930 : BitVec 32 := Scalar.muli v929 c16_i32
  let v974 : Index := Scalar.indexCast v930
  ![0, 1, v974.toNat]
def k0_off5 (k0_t1 : Fin k0_t1_loop.trips) : Fin 3 → Nat :=
  let c0_i32_314 : BitVec 32 := 0#32
  let v1007 : Index := Scalar.indexCast c0_i32_314
  let c2_i32_315 : BitVec 32 := 2#32
  let v1008 : Index := Scalar.indexCast c2_i32_315
  let c0_i32_289 : BitVec 32 := 0#32
  let c0_i32_270 : BitVec 32 := 0#32
  let c1_i32 : BitVec 32 := 1#32
  let arg13 : BitVec 32 := Scf.iv c0_i32_270 c1_i32 k0_t1
  let c1_i32_288 : BitVec 32 := 1#32
  let v928 : BitVec 32 := Scalar.muli arg13 c1_i32_288
  let v929 : BitVec 32 := Scalar.addi c0_i32_289 v928
  let c16_i32 : BitVec 32 := 16#32
  let v930 : BitVec 32 := Scalar.muli v929 c16_i32
  let v1009 : Index := Scalar.indexCast v930
  ![0, 2, v1009.toNat]
def k0_off6 (k0_t1 : Fin k0_t1_loop.trips) : Fin 3 → Nat :=
  let c0_i32_326 : BitVec 32 := 0#32
  let v1042 : Index := Scalar.indexCast c0_i32_326
  let c3_i32 : BitVec 32 := 3#32
  let v1043 : Index := Scalar.indexCast c3_i32
  let c0_i32_289 : BitVec 32 := 0#32
  let c0_i32_270 : BitVec 32 := 0#32
  let c1_i32 : BitVec 32 := 1#32
  let arg13 : BitVec 32 := Scf.iv c0_i32_270 c1_i32 k0_t1
  let c1_i32_288 : BitVec 32 := 1#32
  let v928 : BitVec 32 := Scalar.muli arg13 c1_i32_288
  let v929 : BitVec 32 := Scalar.addi c0_i32_289 v928
  let c16_i32 : BitVec 32 := 16#32
  let v930 : BitVec 32 := Scalar.muli v929 c16_i32
  let v1044 : Index := Scalar.indexCast v930
  ![0, 3, v1044.toNat]
def k0_off7 (k0_t1 : Fin k0_t1_loop.trips) : Fin 3 → Nat :=
  let c0_i32_337 : BitVec 32 := 0#32
  let v1077 : Index := Scalar.indexCast c0_i32_337
  let c4_i32 : BitVec 32 := 4#32
  let v1078 : Index := Scalar.indexCast c4_i32
  let c0_i32_289 : BitVec 32 := 0#32
  let c0_i32_270 : BitVec 32 := 0#32
  let c1_i32 : BitVec 32 := 1#32
  let arg13 : BitVec 32 := Scf.iv c0_i32_270 c1_i32 k0_t1
  let c1_i32_288 : BitVec 32 := 1#32
  let v928 : BitVec 32 := Scalar.muli arg13 c1_i32_288
  let v929 : BitVec 32 := Scalar.addi c0_i32_289 v928
  let c16_i32 : BitVec 32 := 16#32
  let v930 : BitVec 32 := Scalar.muli v929 c16_i32
  let v1079 : Index := Scalar.indexCast v930
  ![0, 4, v1079.toNat]
def k0_off8 (k0_t1 : Fin k0_t1_loop.trips) : Fin 3 → Nat :=
  let c0_i32_348 : BitVec 32 := 0#32
  let v1112 : Index := Scalar.indexCast c0_i32_348
  let c5_i32 : BitVec 32 := 5#32
  let v1113 : Index := Scalar.indexCast c5_i32
  let c0_i32_289 : BitVec 32 := 0#32
  let c0_i32_270 : BitVec 32 := 0#32
  let c1_i32 : BitVec 32 := 1#32
  let arg13 : BitVec 32 := Scf.iv c0_i32_270 c1_i32 k0_t1
  let c1_i32_288 : BitVec 32 := 1#32
  let v928 : BitVec 32 := Scalar.muli arg13 c1_i32_288
  let v929 : BitVec 32 := Scalar.addi c0_i32_289 v928
  let c16_i32 : BitVec 32 := 16#32
  let v930 : BitVec 32 := Scalar.muli v929 c16_i32
  let v1114 : Index := Scalar.indexCast v930
  ![0, 5, v1114.toNat]
def k0_off9 (k0_t1 : Fin k0_t1_loop.trips) : Fin 3 → Nat :=
  let c0_i32_359 : BitVec 32 := 0#32
  let v1147 : Index := Scalar.indexCast c0_i32_359
  let c6_i32 : BitVec 32 := 6#32
  let v1148 : Index := Scalar.indexCast c6_i32
  let c0_i32_289 : BitVec 32 := 0#32
  let c0_i32_270 : BitVec 32 := 0#32
  let c1_i32 : BitVec 32 := 1#32
  let arg13 : BitVec 32 := Scf.iv c0_i32_270 c1_i32 k0_t1
  let c1_i32_288 : BitVec 32 := 1#32
  let v928 : BitVec 32 := Scalar.muli arg13 c1_i32_288
  let v929 : BitVec 32 := Scalar.addi c0_i32_289 v928
  let c16_i32 : BitVec 32 := 16#32
  let v930 : BitVec 32 := Scalar.muli v929 c16_i32
  let v1149 : Index := Scalar.indexCast v930
  ![0, 6, v1149.toNat]
def k0_off10 (k0_t1 : Fin k0_t1_loop.trips) : Fin 3 → Nat :=
  let c0_i32_370 : BitVec 32 := 0#32
  let v1182 : Index := Scalar.indexCast c0_i32_370
  let c7_i32 : BitVec 32 := 7#32
  let v1183 : Index := Scalar.indexCast c7_i32
  let c0_i32_289 : BitVec 32 := 0#32
  let c0_i32_270 : BitVec 32 := 0#32
  let c1_i32 : BitVec 32 := 1#32
  let arg13 : BitVec 32 := Scf.iv c0_i32_270 c1_i32 k0_t1
  let c1_i32_288 : BitVec 32 := 1#32
  let v928 : BitVec 32 := Scalar.muli arg13 c1_i32_288
  let v929 : BitVec 32 := Scalar.addi c0_i32_289 v928
  let c16_i32 : BitVec 32 := 16#32
  let v930 : BitVec 32 := Scalar.muli v929 c16_i32
  let v1184 : Index := Scalar.indexCast v930
  ![0, 7, v1184.toNat]
abbrev grid1 : Pipeline.Grid := ⟨1, ![7], ![false]⟩

def cc1_transform_0 (i : grid1.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x2048x2048 : Shape := ⟨3, ![1, 2048, 2048]⟩
abbrev S1x1x2048 : Shape := ⟨3, ![1, 1, 2048]⟩
abbrev S16 : Shape := ⟨1, ![16]⟩
abbrev S4194304x1 : Shape := ⟨2, ![4194304, 1]⟩
abbrev S1x16 : Shape := ⟨2, ![1, 16]⟩
abbrev S4194304x16 : Shape := ⟨2, ![4194304, 16]⟩
abbrev S_ : Shape := ⟨0, ![]⟩
abbrev S4194304 : Shape := ⟨1, ![4194304]⟩
abbrev S1 : Shape := ⟨1, ![1]⟩
abbrev S1x1 : Shape := ⟨2, ![1, 1]⟩

abbrev nBuf : Space → Nat
  | .hbm => 41
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x1x2048, .f32⟩
  | .hbm, ⟨2, _⟩ => ⟨S16, .f32⟩
  | .hbm, ⟨3, _⟩ => ⟨S1x2048x2048, .f32⟩
  | .hbm, ⟨4, _⟩ => ⟨S1x2048x2048, .f32⟩
  | .hbm, ⟨5, _⟩ => ⟨S4194304x1, .f32⟩
  | .hbm, ⟨6, _⟩ => ⟨S1x16, .f32⟩
  | .hbm, ⟨7, _⟩ => ⟨S4194304x16, .f32⟩
  | .hbm, ⟨8, _⟩ => ⟨S4194304x16, .f32⟩
  | .hbm, ⟨9, _⟩ => ⟨S4194304x16, .f32⟩
  | .hbm, ⟨10, _⟩ => ⟨S4194304x16, .f32⟩
  | .hbm, ⟨11, _⟩ => ⟨S4194304x16, .i32⟩
  | .hbm, ⟨12, _⟩ => ⟨S_, .f32⟩
  | .hbm, ⟨13, _⟩ => ⟨S_, .i32⟩
  | .hbm, ⟨14, _⟩ => ⟨S4194304, .f32⟩
  | .hbm, ⟨15, _⟩ => ⟨S4194304, .i32⟩
  | .hbm, ⟨16, _⟩ => ⟨S_, .i32⟩
  | .hbm, ⟨17, _⟩ => ⟨S4194304, .i32⟩
  | .hbm, ⟨18, _⟩ => ⟨S4194304, .i1⟩
  | .hbm, ⟨19, _⟩ => ⟨S_, .i32⟩
  | .hbm, ⟨20, _⟩ => ⟨S4194304, .i32⟩
  | .hbm, ⟨21, _⟩ => ⟨S4194304, .i32⟩
  | .hbm, ⟨22, _⟩ => ⟨S4194304, .i32⟩
  | .hbm, ⟨23, _⟩ => ⟨S4194304x1, .i32⟩
  | .hbm, ⟨24, _⟩ => ⟨S1, .i32⟩
  | .hbm, ⟨25, _⟩ => ⟨S_, .i32⟩
  | .hbm, ⟨26, _⟩ => ⟨S4194304x1, .i32⟩
  | .hbm, ⟨27, _⟩ => ⟨S4194304x1, .i1⟩
  | .hbm, ⟨28, _⟩ => ⟨S1x1, .i32⟩
  | .hbm, ⟨29, _⟩ => ⟨S4194304x1, .i32⟩
  | .hbm, ⟨30, _⟩ => ⟨S4194304x1, .i1⟩
  | .hbm, ⟨31, _⟩ => ⟨S4194304x1, .i1⟩
  | .hbm, ⟨32, _⟩ => ⟨S_, .i1⟩
  | .hbm, ⟨33, _⟩ => ⟨S4194304, .i1⟩
  | .hbm, ⟨34, _⟩ => ⟨S4194304, .f32⟩
  | .hbm, ⟨35, _⟩ => ⟨S_, .f32⟩
  | .hbm, ⟨36, _⟩ => ⟨S4194304, .f32⟩
  | .hbm, ⟨37, _⟩ => ⟨S4194304, .f32⟩
  | .hbm, ⟨38, _⟩ => ⟨S1x2048x2048, .f32⟩
  | .hbm, ⟨39, _⟩ => ⟨S1x2048x2048, .f32⟩
  | .hbm, ⟨40, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_cst : Ref sig .tc := ⟨.hbm, 12, rfl⟩
abbrev main_call0_c : Ref sig .tc := ⟨.hbm, 13, rfl⟩
abbrev main_call0_v1_0 : Ref sig .tc := ⟨.hbm, 14, rfl⟩
abbrev main_v8 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_cst : Ref sig .tc := ⟨.hbm, 35, rfl⟩
abbrev main_call1_v14 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩

abbrev nD : Nat := 1
abbrev τ : Topo := Topo.v7x

variable {F : FTy → Type} [FloatOps F]
-- ==== Proof.RefRun.lean ====
/-
  The reference program's run: its operations in order, and the value they leave in the result.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Proof.R

open Cert.ReferenceIdeal Cert.ReferenceIdeal.Gen
open Idealize.ShloMosaic Idealize.ShloMosaic.TcCoe Idealize.ShloMosaic.StableHlo Idealize.SL.Sem

variable {F : FTy → Type} [FloatOps F]

/-- The quotients `x / scale` and then each one's distances to the sixteen codes, a row for each quotient. -/
def dist (x : FVec F S1x2048x2048 .f32) (s : FVec F S1x1x2048 .f32) (t : FVec F S16 .f32) : FVec F S4194304x16 .f32 :=
  Host.absf (subf
    (broadcastInDim S4194304x16 ![0, 1] bcast_S4194304x1_S4194304x16_0_1
      (shapeCast S4194304x1 (Host.divf x (broadcastInDim S1x2048x2048 ![0, 1, 2] bcast_S1x1x2048_S1x2048x2048_0_1_2 s))
        shapeCasts_S1x2048x2048_S4194304x1))
    (broadcastInDim S4194304x16 ![0, 1] bcast_S1x16_S4194304x16_0_1 (shapeCast S1x16 t shapeCasts_S16_S1x16)))

/-- The place of each row's smallest distance. -/
def nearest (a : FVec F S4194304x16 .f32) : IVec S4194304 32 := fun j =>
  (Host.argReduce reducer_argmin_f32_i32 a (iotaInDim S4194304x16 32 1) (constant S_ .f32 0x7F800000#32) (constantI S_ 32 0#32)
    reducesTo_S4194304x16_S4194304_d1 h_S_ j).2

/-- The places as `take` reads them: a negative one counted from the end, then one column. -/
def places (n : IVec S4194304 32) : IVec S4194304x1 32 :=
  broadcastInDim S4194304x1 ![0] bcast_S4194304_S4194304x1_0
    (select (cmpi .slt n (broadcastInDim S4194304 ![] bcast_S_S4194304 (constantI S_ 32 0#32)))
      (addi n (broadcastInDim S4194304 ![] bcast_S_S4194304 (constantI S_ 32 16#32))) n)

/-- The codes at those places, not-a-number where a place is outside the table. -/
def taken (t : FVec F S16 .f32) (n : IVec S4194304 32) : FVec F S4194304 .f32 :=
  select
    (Host.reduce IntOp.andi
      (andi (cmpi .sge (places n) (broadcastInDim S4194304x1 ![] bcast_S_S4194304x1 (constantI S_ 32 0#32)))
        (cmpi .sle (places n) (broadcastInDim S4194304x1 ![0, 1] bcast_S1x1_S4194304x1_0_1
          (broadcastInDim S1x1 ![1] bcast_S1_S1x1_1 (constantI S1 32 15#32)))))
      (constantI S_ 1 1#1) reducesTo_S4194304x1_S4194304_d1 h_S_)
    (Host.gather gather_S16_S4194304x1_S4194304_n_0_n_n_0_1_1 t (places n))
    (broadcastInDim S4194304 ![] bcast_S_S4194304 (constant S_ .f32 0x7FC00000#32))

/-- The reference's result: the nearest code times the scale. -/
def out (x : FVec F S1x2048x2048 .f32) (s : FVec F S1x1x2048 .f32) (t : FVec F S16 .f32) : FVec F S1x2048x2048 .f32 :=
  mulf (shapeCast S1x2048x2048 (taken t (nearest (dist x s t))) shapeCasts_S4194304_S1x2048x2048)
    (broadcastInDim S1x2048x2048 ![0, 1, 2] bcast_S1x1x2048_S1x2048x2048_0_1_2 s)

/-- The operations in order, the calls of `argmin`, `take` and `where` unfolded. -/
abbrev ops : List (HloOp τ sig (Elt F)) :=
  [ unary main_arg1 main_v0 (broadcastInDim S1x2048x2048 ![0, 1, 2] bcast_S1x1x2048_S1x2048x2048_0_1_2),
    binary main_arg0 main_v0 main_v1 Host.divf,
    reshape main_v1 main_v2 rfl shapeCasts_S1x2048x2048_S4194304x1,
    reshape main_arg2 main_v3 rfl shapeCasts_S16_S1x16,
    unary main_v2 main_v4 (broadcastInDim S4194304x16 ![0, 1] bcast_S4194304x1_S4194304x16_0_1),
    unary main_v3 main_v5 (broadcastInDim S4194304x16 ![0, 1] bcast_S1x16_S4194304x16_0_1),
    binary main_v4 main_v5 main_v6 subf,
    unary main_v6 main_v7 Host.absf,
    TRef.nullary main_call0.v0 (iotaInDim S4194304x16 32 1),
    TRef.nullary main_call0.cst (constant S_ .f32 0x7F800000#32),
    TRef.nullary main_call0.c (constantI S_ 32 0#32),
    TRef.quaternary (.of main_v7 rfl) main_call0.v0 main_call0.cst main_call0.c main_call0.v1_0 (fun x y u v j => (Host.argReduce reducer_argmin_f32_i32 x y u v reducesTo_S4194304x16_S4194304_d1 h_S_ j).1),
    TRef.quaternary (.of main_v7 rfl) main_call0.v0 main_call0.cst main_call0.c main_call0.v1_1 (fun x y u v j => (Host.argReduce reducer_argmin_f32_i32 x y u v reducesTo_S4194304x16_S4194304_d1 h_S_ j).2),
    TRef.nullary main_call1.c (constantI S_ 32 0#32),
    TRef.unary main_call1.c main_call1.v0 (broadcastInDim S4194304 ![] bcast_S_S4194304),
    TRef.binary (.of main_v8 rfl) main_call1.v0 main_call1.v1 (cmpi .slt),
    TRef.nullary main_call1.c_0 (constantI S_ 32 16#32),
    TRef.unary main_call1.c_0 main_call1.v2 (broadcastInDim S4194304 ![] bcast_S_S4194304),
    TRef.binary (.of main_v8 rfl) main_call1.v2 main_call1.v3 addi,
    TRef.ternary main_call1.v1 main_call1.v3 (.of main_v8 rfl) main_call1.call0.v0 select,
    TRef.unary main_call1.call0.v0 main_call1.v5 (broadcastInDim S4194304x1 ![0] bcast_S4194304_S4194304x1_0),
    TRef.nullary main_call1.c_1 (constantI S1 32 15#32),
    TRef.nullary main_call1.c_2 (constantI S_ 32 0#32),
    TRef.unary main_call1.c_2 main_call1.v6 (broadcastInDim S4194304x1 ![] bcast_S_S4194304x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S4194304x1 ![0, 1] bcast_S1x1_S4194304x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4194304x1_S4194304_d1 h_S_),
    TRef.binary (.of main_arg2 rfl) main_call1.v5 main_call1.v13 (fun x i => Host.gather gather_S16_S4194304x1_S4194304_n_0_n_n_0_1_1 x i),
    TRef.nullary main_call1.cst (constant S_ .f32 0x7FC00000#32),
    TRef.unary main_call1.cst main_call1.v14 (broadcastInDim S4194304 ![] bcast_S_S4194304),
    TRef.ternary main_call1.v12 main_call1.v13 main_call1.v14 main_call1.v15 select,
    reshape main_v9 main_v10 rfl shapeCasts_S4194304_S1x2048x2048,
    unary main_arg1 main_v11 (broadcastInDim S1x2048x2048 ![0, 1, 2] bcast_S1x1x2048_S1x2048x2048_0_1_2),
    binary main_v10 main_v11 main_v12 mulf ]

set_option maxRecDepth 1024 in
theorem main_eq (c : Dev nD) : main (F := F) c = seq ops := by
  simp only [main, fn_argmin.body, fn_take.body, fn_where.body, seq, bind_assoc, pure_bind]

set_option maxRecDepth 8192 in
theorem out_eq (V : Valuation τ sig (Elt F)) :
    after ops V (main_v12 : DevRef τ sig)
      = out (V (main_arg0 : DevRef τ sig)) (V (main_arg1 : DevRef τ sig)) (V (main_arg2 : DevRef τ sig)) := by
  after_results_simp
  simp -implicitDefEqProofs only [TRef.toBuf, TRef.ofBuf, cast_cast, cast_eq]
  unfold out taken places nearest dist
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., reshape_bufs_sub .., reshape_bufs_sub .., unary_bufs_sub .., unary_bufs_sub ..,
    binary_bufs_sub .., unary_bufs_sub ..,
    nullary_bufs_sub .., nullary_bufs_sub .., nullary_bufs_sub .., quaternary_bufs_sub .., quaternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    reshape_bufs_sub .., unary_bufs_sub .., binary_bufs_sub ..⟩

/-- The reference runs to the end from any memory, and then its arguments are as they were, its result is `out` of them. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v12) = out (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono
    (fun r h => ⟨fun c => ⟨(h c main_v12).trans (out_eq _), (h c main_arg0).trans (arg0_eq _), (h c main_arg1).trans (arg1_eq _),
      (h c main_arg2).trans (arg2_eq _)⟩, Idealize.ShloMosaic.sem_eq_zero_of_no_sems (by decide) r.2⟩)
    (run_seq scopedRefs_eq scopedSems_eq defs main (fun _ => ops) main_eq (fun _ => ops_sub) m ρ)

end Cert.Proof.R

end
-- ==== Proof.Same.lean ====
/-
  The program and the idealized program are one text, since no rule was applied: their body tables are equal.
-/
module

public import proofs.«01_k».proof.Defs
public import proofs.«01_k».proof.Proof.Gen.Kernel
public import proofs.«01_k».proof.Proof.Gen.KernelIdeal

@[expose] public section

namespace Cert.Proof

open Idealize.ShloMosaic

variable {F : FTy → Type} [FloatOps F]

theorem kernels_eq : Cert.Kernel.defs₀ (F := F) = Cert.KernelIdeal.defs₀ (F := F) := by
  funext p l a
  obtain ⟨l, hl⟩ := l
  match p, l, hl, a with
  | .scVector c s, 0, _, _ => rfl
  | .tc, 1, _, (t, s) => rfl
  | .tc, 0, _, _ => rfl
  | .scScalar c, 0, _, _ => rfl
  | .scScalar c, 1, _, _ => rfl
  | .scVector c s, 1, _, _ => rfl

theorem defs_eq : Cert.Kernel.defs (F := F) = Cert.KernelIdeal.defs (F := F) := by
  unfold Cert.Kernel.defs Cert.KernelIdeal.defs
  rw [kernels_eq]
  rfl

end Cert.Proof
-- ==== Proof.Base.lean ====
/-
  The set-up of the kernel's run: the program as the launch theorem sees it, the resource algebra, the arrays in HBM, and
  the values the two halves of the kernel compute.

  The kernel quantises each element `x` of a 2048 × 2048 array against its column's scale `s`: `x / s` goes to the nearest of
  the sixteen values of a 4-bit float code, and the result is that value times `s`. Rows 0 to 255 are the SparseCores' (eight
  rows for each of the thirty-two vector subcores); rows 256 to 2047 are the TensorCore's, in seven blocks of 256 rows.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes
public import Idealize.ShloMosaic.Lib.ValueLayout
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays -/

/-- `x` as 2048 rows, the scales as a vector, and the SparseCores' result. -/
abbrev xLoc (d : Dev nD) : Loc nD τ sig := (SparseCore.T d).loc main_v0
abbrev sLoc (d : Dev nD) : Loc nD τ sig := (SparseCore.T d).loc main_v1
abbrev oLoc (d : Dev nD) : Loc nD τ sig := (SparseCore.T d).loc main_v2

/-! ## The values -/

section Values
variable [FloatOps F]

/-- The magnitude of the code nearest to a scaled magnitude `a`: below 2.5 the nearest half, capped at 2; from there the
    nearest integer, capped at 4, and 6 from 5 on. -/
def mag (a : F .f32) : F .f32 :=
  Scalar.select (FloatOps.cmpf .olt a (Scalar.ofBits .f32 0x40200000#32))
    (FloatOps.mulf (FloatOps.minimumf (FloatOps.roundeven (FloatOps.addf a a)) (Scalar.ofBits .f32 0x40800000#32)) (Scalar.ofBits .f32 0x3F000000#32))
    (Scalar.select (FloatOps.cmpf .olt a (Scalar.ofBits .f32 0x40A00000#32))
      (FloatOps.roundeven (FloatOps.minimumf a (Scalar.ofBits .f32 0x40800000#32))) (Scalar.ofBits .f32 0x40C00000#32))

/-- `v` with the sign of `y`. -/
def signed (y v : F .f32) : F .f32 :=
  Scalar.select (FloatOps.cmpf .olt y (Scalar.ofBits .f32 0x00000000#32)) (FloatOps.subf (Scalar.ofBits .f32 0x00000000#32) v) v

/-- The reciprocal of a scale. -/
def recip (s : F .f32) : F .f32 := FloatOps.divf (Scalar.ofBits .f32 0x3F800000#32) s

/-- What a vector subcore computes from an element, its column's reciprocal scale and its column's scale. -/
def scVal (x i s : F .f32) : F .f32 := signed x (FloatOps.mulf (mag (FloatOps.mulf (FloatOps.absf x) i)) s)
/-- What the TensorCore computes from an element and its column's scale. -/
def tcVal (x s : F .f32) : F .f32 :=
  FloatOps.mulf (signed (FloatOps.mulf x (recip s)) (mag (FloatOps.absf (FloatOps.mulf x (recip s))))) s

omit [FloatOps F] in
/-- Sixteen lanes as a 1 × 1 × 16 block, and back. -/
theorem cast_block (v : S16.Idx → F .f32) (k : Fin 16) : shapeCast S1x1x16 v shapeCasts_S16_S1x1x16 (ix3 0 0 k) = v (ix1 k) :=
  shapeCast_apply v _ _ _ (by
    rw [Shape.rowMajor_val_three, Shape.rowMajor_val_one]
    show k.val = ((0 * 1 + 0) * 16 + k.val : ℕ)
    omega)
omit [FloatOps F] in
theorem cast_lanes (v : S1x1x16.Idx → F .f32) (k : Fin 16) : shapeCast S16 v shapeCasts_S1x1x16_S16 (ix1 k) = v (ix3 0 0 k) :=
  shapeCast_apply v _ _ _ (by
    rw [Shape.rowMajor_val_three, Shape.rowMajor_val_one]
    show ((0 * 1 + 0) * 16 + k.val : ℕ) = k.val
    omega)
omit [FloatOps F] in
theorem cast_same (v : S16.Idx → F .f32) : shapeCast S16 v shapeCasts_S16_S16 = v :=
  funext fun j => shapeCast_apply v _ _ _ rfl

/-- The payload of the first row of a trip: `scVal` lane by lane. -/
theorem pay_row (v w : Vec F S16 .f32) (x : Vec F S1x1x16 .f32) (k : Fin 16) :
    k0_pay3 v w x (ix3 0 0 k) = scVal (x (ix3 0 0 k)) (v (ix1 k)) (w (ix1 k)) := by
  have e1 : k0_pay1 v = v := cast_same v
  have e2 : k0_pay2 w = w := cast_same w
  unfold k0_pay3
  simp only [cast_block, e1, e2]
  rw [← cast_lanes x k]
  rfl
/-- The other rows' payloads are the first row's. -/
theorem pay_row4 (v w : Vec F S16 .f32) (x : Vec F S1x1x16 .f32) : k0_pay4 (k0_pay1 v) (k0_pay2 w) x = k0_pay3 v w x := rfl
theorem pay_row8 (v w : Vec F S16 .f32) (x : Vec F S1x1x16 .f32) :
    k0_pay8 (k0_pay2 w) (k0_pay5 x) (k0_pay6 (k0_pay1 v) x) (k0_pay7 (k0_pay1 v) x) = k0_pay3 v w x := rfl
theorem pay_row14 (v w : Vec F S16 .f32) (x : Vec F S1x1x16 .f32) :
    k0_pay14 (k0_pay2 w) (k0_pay9 x) (k0_pay10 (k0_pay1 v) x) (k0_pay11 (k0_pay1 v) x) (k0_pay12 (k0_pay1 v) x) (k0_pay13 (k0_pay1 v) x)
      = k0_pay3 v w x := rfl
theorem pay_row18 (v w : Vec F S16 .f32) (x : Vec F S1x1x16 .f32) :
    k0_pay18 (k0_pay16 (k0_pay1 v) (k0_pay2 w) x) (k0_pay17 x) = k0_pay3 v w x := rfl
theorem pay_row19 (v w : Vec F S16 .f32) (x : Vec F S1x1x16 .f32) : k0_pay19 (k0_pay1 v) (k0_pay2 w) x = k0_pay3 v w x := rfl
theorem pay_row20 (v w : Vec F S16 .f32) (x : Vec F S1x1x16 .f32) : k0_pay20 (k0_pay1 v) (k0_pay2 w) x = k0_pay3 v w x := rfl
theorem pay_row169 (v w : Vec F S16 .f32) (x : Vec F S1x1x16 .f32) :
    k0_pay169 (k0_pay2 w) (k0_pay21 x) (k0_pay22 (k0_pay1 v) x) (k0_pay23 (k0_pay1 v) x) = k0_pay3 v w x := rfl

/-- The payload of a chunk of reciprocals. -/
theorem pay_recip (v : Vec F S16 .f32) (j : S16.Idx) : k0_pay24 v j = recip (v j) := by
  unfold k0_pay24
  simp only [cast_same]
  rfl

end Values

end Cert.Proof.K

end
-- ==== Proof.Tile.lean ====
/-
  One vector subcore's task, proved once at a symbolic subcore.
-/
module

public import proofs.«01_k».proof.Proof.Base
public import Idealize.ShloMosaic.Lib.Ring

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S2048x2048 EltTy.f32)
local notation "sV" => (Memref.whole Cert.KernelIdeal.main_v1_scv : Memref Cert.KernelIdeal.sig Kind.scVector Space.hbm Cert.KernelIdeal.S2048 EltTy.f32)
local notation "oV" => (Memref.whole Cert.KernelIdeal.main_v2_scv : Memref Cert.KernelIdeal.sig Kind.scVector Space.hbm Cert.KernelIdeal.S2048x2048 EltTy.f32)
local notation "bS" => (Memref.whole Cert.KernelIdeal.cc0_scratch0 : Memref Cert.KernelIdeal.sig Kind.scVector Space.vmem Cert.KernelIdeal.S2048 EltTy.f32)
local notation "bI" => (Memref.whole Cert.KernelIdeal.cc0_scratch1 : Memref Cert.KernelIdeal.sig Kind.scVector Space.vmem Cert.KernelIdeal.S2048 EltTy.f32)
local notation "bX" => (Memref.whole Cert.KernelIdeal.cc0_scratch2 : Memref Cert.KernelIdeal.sig Kind.scVector Space.vmem Cert.KernelIdeal.S2x8x2048 EltTy.f32)
local notation "bO" => (Memref.whole Cert.KernelIdeal.cc0_scratch3 : Memref Cert.KernelIdeal.sig Kind.scVector Space.vmem Cert.KernelIdeal.S2x8x2048 EltTy.f32)

variable [FloatOps F]
variable (X : (d : Dev nD) → Buf (Elt F) (xLoc d)) (S₀ : (d : Dev nD) → Buf (Elt F) (sLoc d)) (O₀ : (d : Dev nD) → Buf (Elt F) (oLoc d))

/-! ## What a task is handed and what it hands back -/

section Tile

variable (d : Dev nD) (L : grid0.Coords)

abbrev cV (L : grid0.Coords) : Fin τ.nSC := (L 0).castLE hcore0
abbrev jV (L : grid0.Coords) : Fin τ.nSub := (L 1).castLE hsub0
abbrev me (d : Dev nD) (L : grid0.Coords) : Thread nD τ := V d (cV L) (jV L)

/-- The eight rows of subcore `L`, of any 2048 × 2048 array. -/
abbrev rowsK (L : grid0.Coords) : Rect S2048x2048 := Rect.unit (s := S2048x2048) (k0_off1 L) S8x2048.size (k0_off1_inb L)
abbrev xK (L : grid0.Coords) : Memref sig .scVector .hbm S8x2048 .f32 := (xV).slice (rowsK L) (fun _ => rfl)
abbrev oK (L : grid0.Coords) : Memref sig .scVector .hbm S8x2048 .f32 := (oV).slice (rowsK L) (fun _ => rfl)

/-- The number of a subcore among the thirty-two. -/
def wid (L : grid0.Coords) : Fin 32 := ⟨2 * (L 1).val + (L 0).val, by
  have h0 : (L 0).val < 2 := (L 0).isLt
  have h1 : (L 1).val < 16 := (L 1).isLt
  omega⟩

/-- What the SparseCores leave at a place of their rows. -/
def scOut (d : Dev nD) : Buf (Elt F) (oLoc d) := fun j =>
  scVal (X d j) (recip (S₀ d (ix1 (j 1)))) (S₀ d (ix1 (j 1)))

abbrev xPts : sProp 𝕄 := (xK L).view.loc (me d L) ↦[(xK L).view.set]{fullShare} X d
abbrev sPts : sProp 𝕄 := (sV).view.loc (me d L) ↦{Transfers.shareTok fullShare 32 (wid L)} S₀ d
abbrev oPts (f : Buf (Elt F) (oLoc d)) : sProp 𝕄 := (oK L).view.loc (me d L) ↦[(oK L).view.set]{fullShare} f

abbrev cellA (d : Dev nD) (L : grid0.Coords) : GSem nD τ sig := (me d L, .dma cc0_scoped0.sem)
abbrev cellB (d : Dev nD) (L : grid0.Coords) : GSem nD τ sig := (me d L, .dma cc0_scratch4.sem)
abbrev cellC (d : Dev nD) (L : grid0.Coords) : GSem nD τ sig := (me d L, .dma cc0_scratch6.sem)

omit [FloatOps F] in
theorem ownSems0_V :
    (ownSems0 (me d L) : sProp 𝕄)
      = iprop(semVal (cellA d L) 0 ∗ semVal (cellB d L) 0 ∗ semVal (cellC d L) 0
          ∗ bigSep ((((ownCells (me d L)).erase (cellA d L)).erase (cellB d L)).erase (cellC d L)) fun g => semVal g 0) := by
  unfold SparseCore.Cfg.ownSems0
  rw [SparseCore.bigSep_erase' ((mem_ownCells (g := cellA d L)).mpr ⟨rfl, by
      show (SemLoc.dma cc0_scoped0.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scratch4.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d L)).mpr ⟨rfl, by show (SemLoc.dma cc0_scratch6.sem : SemLoc sig).isScoped .scVector = true; decide⟩⟩⟩)]

abbrev ref (L : grid0.Coords) (r : Ref sig .scVector) : DevRef τ sig := (Proc.scVector (cV L) (jV L)).devRef r

omit [FloatOps F] in
/-- The four scratch buffers are among the subcore's own: they are them, at some contents, and the rest. -/
theorem ownBufs_V :
    (ownBufs (me d L) : sProp 𝕄)
      = iprop((∃ f, (me d L).loc cc0_scratch0 ↦{fullShare} f) ∗ (∃ f, (me d L).loc cc0_scratch1 ↦{fullShare} f)
          ∗ (∃ f, (me d L).loc cc0_scratch2 ↦{fullShare} f) ∗ (∃ f, (me d L).loc cc0_scratch3 ↦{fullShare} f)
          ∗ bigSep (((((ownRefs (τ := τ) (.scVector (cV L) (jV L))).erase (ref L cc0_scratch0)).erase (ref L cc0_scratch1)).erase
              (ref L cc0_scratch2)).erase (ref L cc0_scratch3))
              fun b => iprop(∃ f, ((d, b) : Loc nD τ sig) ↦{fullShare} f)) := by
  have hm : ∀ r : Ref sig .scVector, (ref L r).owner = .proc (Proc.scVector (cV L) (jV L)) →
      ref L r ∈ ownRefs (τ := τ) (.scVector (cV L) (jV L)) := fun r h =>
    SparseCore.Cfg.mem_ownRefs_of_owner (p := Proc.scVector (cV L) (jV L)) (b := ref L r) h
  have hne : ∀ r r' : Ref sig .scVector, r ≠ r' → ref L r ≠ ref L r' := fun r r' h e => h (Proc.devRef_injective _ e)
  unfold SparseCore.Cfg.ownBufs
  refine (SparseCore.bigSep_erase' (hm cc0_scratch0 rfl)).trans ?_
  rw [SparseCore.bigSep_erase' (Finset.mem_erase.mpr ⟨hne cc0_scratch1 cc0_scratch0 (by decide), hm cc0_scratch1 rfl⟩),
    SparseCore.bigSep_erase' (Finset.mem_erase.mpr ⟨hne cc0_scratch2 cc0_scratch1 (by decide), Finset.mem_erase.mpr
      ⟨hne cc0_scratch2 cc0_scratch0 (by decide), hm cc0_scratch2 rfl⟩⟩),
    SparseCore.bigSep_erase' (Finset.mem_erase.mpr ⟨hne cc0_scratch3 cc0_scratch2 (by decide), Finset.mem_erase.mpr
      ⟨hne cc0_scratch3 cc0_scratch1 (by decide), Finset.mem_erase.mpr ⟨hne cc0_scratch3 cc0_scratch0 (by decide), hm cc0_scratch3 rfl⟩⟩⟩)]

/-! ## The values along the run -/

omit [FloatOps F] in
/-- The scales as fetched. -/
theorem fetched_scales (S₁ f0 : S2048.Idx → F .f32) :
    View.write (Elt F) (bS).view f0 (ReadAs.same.apply (View.read (Elt F) (sV).view S₁)) Finset.univ = S₁ := by
  rw [View.write_whole_univ]; rfl

/-- The payload of a chunk of reciprocals, at the place it is stored. -/
theorem recip_piece (n : ℕ) (h : ∀ a, (![n] : Fin 1 → ℕ) a + S16.size a ≤ S2048.size a) (S₁ f0 : S2048.Idx → F .f32) (x : S16.Idx) :
    k0_pay24 (View.readAt (Elt F) (bS).view (Rect.unit (s := S2048) ![n] S16.size h).toLoadRect
        (View.write (Elt F) (bS).view f0 (ReadAs.same.apply (View.read (Elt F) (sV).view S₁)) Finset.univ)) x
      = recip (S₁ ((Rect.unit (s := S2048) ![n] S16.size h).emb x)) := by
  rw [pay_recip, fetched_scales]; rfl

/-- The places of the first `n` lane groups hold the kernel's value, in every one of the eight rows. -/
def Done (S₁ : S2048.Idx → F .f32) (G : S2x8x2048.Idx → F .f32) (n : ℕ) (g : S2x8x2048.Idx → F .f32) : Prop :=
  ∀ (r : Fin 8) (c : Fin 2048), c.val < 16 * n →
    g (ix3 0 r c) = scVal (G (ix3 0 r c)) (recip (S₁ (ix1 c))) (S₁ (ix1 c))

/-- What holds between two lane groups. -/
def loopInv (S₁ : S2048.Idx → F .f32) (G : S2x8x2048.Idx → F .f32) (n : ℕ) (_ : Unit) : sProp 𝕄 :=
  iprop(((bS).view.loc (me d L) ↦{fullShare} S₁) ∗ ((bI).view.loc (me d L) ↦{fullShare} fun j => recip (S₁ j))
    ∗ ((bX).view.loc (me d L) ↦{fullShare} G) ∗ ∃ g : S2x8x2048.Idx → F .f32, ⌜Done S₁ G n g⌝ ∗ (bO).view.loc (me d L) ↦{fullShare} g)

omit [FloatOps F] in
theorem row_mem (k : ℕ) (r : Fin 8) (c : Fin 2048) (o : Fin 3 → ℕ) (h : ∀ a, o a + S1x1x16.size a ≤ S2x8x2048.size a)
    (ho : o = ![0, r.val, 16 * k]) (h₁ : 16 * k ≤ c.val) (h₂ : c.val < 16 * k + 16) :
    (ix3 0 r c : S2x8x2048.Idx) ∈ (Rect.unit (s := S2x8x2048) o S1x1x16.size h).set := by
  subst ho
  rw [Rect.mem_set_unit]
  intro a
  fin_cases a
  · exact ⟨Nat.le_refl 0, Nat.one_pos⟩
  · exact ⟨Nat.le_refl _, Nat.lt_succ_self _⟩
  · exact ⟨h₁, h₂⟩

omit [FloatOps F] in
theorem row_not_mem (k : ℕ) (r r' : Fin 8) (c : Fin 2048) (o : Fin 3 → ℕ) (h : ∀ a, o a + S1x1x16.size a ≤ S2x8x2048.size a)
    (ho : o = ![0, r'.val, 16 * k]) (h₁ : c.val < 16 * k) :
    (ix3 0 r c : S2x8x2048.Idx) ∉ (Rect.unit (s := S2x8x2048) o S1x1x16.size h).set := by
  subst ho
  rw [Rect.mem_set_unit]
  intro hm
  exact absurd h₁ (Nat.not_lt.2 (hm 2).1)

/-- What a place of the staged rows is to hold. -/
def tgt (S₁ : S2048.Idx → F .f32) (G : S2x8x2048.Idx → F .f32) (j : S2x8x2048.Idx) : F .f32 :=
  scVal (G j) (recip (S₁ (ix1 (j 2)))) (S₁ (ix1 (j 2)))

/-- The payload of a lane group of one row, at the place it is stored. -/
theorem row_piece (S₁ : S2048.Idx → F .f32) (G : S2x8x2048.Idx → F .f32) (k : ℕ) (r : Fin 8) (q : Fin 1 → ℕ) (o : Fin 3 → ℕ)
    (hq : ∀ a, q a + S16.size a ≤ S2048.size a) (h : ∀ a, o a + S1x1x16.size a ≤ S2x8x2048.size a)
    (eq : q = ![16 * k]) (ho : o = ![0, r.val, 16 * k]) (x : S1x1x16.Idx) :
    k0_pay3 (View.readAt (Elt F) (bI).view (Rect.unit (s := S2048) q S16.size hq).toLoadRect fun j => recip (S₁ j))
        (View.readAt (Elt F) (bS).view (Rect.unit (s := S2048) q S16.size hq).toLoadRect S₁)
        (View.readAt (Elt F) (bX).view (Rect.unit (s := S2x8x2048) o S1x1x16.size h).toLoadRect G) x
      = tgt S₁ G ((Rect.unit (s := S2x8x2048) o S1x1x16.size h).emb x) := by
  subst eq ho
  obtain ⟨a, b, c, rfl⟩ : ∃ (a : Fin 1) (b : Fin 1) (c : Fin 16), x = ix3 a b c := ⟨x 0, x 1, x 2, by funext i; fin_cases i <;> rfl⟩
  obtain rfl : a = 0 := Subsingleton.elim _ _
  obtain rfl : b = 0 := Subsingleton.elim _ _
  rw [pay_row]
  have e : (Rect.unit (s := S2048) ![16 * k] S16.size hq).emb (ix1 c)
      = ix1 ((Rect.unit (s := S2x8x2048) ![0, r.val, 16 * k] S1x1x16.size h).emb (ix3 0 0 c) 2) := by
    funext i; fin_cases i; rfl
  show scVal (G _) (recip (S₁ ((Rect.unit (s := S2048) ![16 * k] S16.size hq).emb (ix1 c)))) (S₁ ((Rect.unit (s := S2048) ![16 * k] S16.size hq).emb (ix1 c))) = _
  rw [e]; rfl

omit [FloatOps F] in
/-- The staged rows after stores whose payloads are all `T` at their places, at a place some store covers; -/
theorem writes_hit (g T : S2x8x2048.Idx → F .f32) (l : List (View.Piece (Elt F) S2x8x2048 .f32))
    (hT : ∀ p ∈ l, ∀ x : p.1.shape.Idx, p.2 x = T (p.1.emb x)) (y : S2x8x2048.Idx) (hy : ∃ p ∈ l, y ∈ p.1.set) :
    (bO).view.writes (Elt F) g l y = T y :=
  View.read_writes_apply_of_pieces (Val := Elt F) (e := .f32) (bO).view g T l hT y hy

omit [FloatOps F] in
/-- and at a place none covers. -/
theorem writes_miss (g : S2x8x2048.Idx → F .f32) (l : List (View.Piece (Elt F) S2x8x2048 .f32))
    (y : S2x8x2048.Idx) (hy : ∀ p ∈ l, y ∉ p.1.set) :
    (bO).view.writes (Elt F) g l y = g y :=
  View.read_writes_apply_of_forall_not_mem (Val := Elt F) (e := .f32) (v := (bO).view) (f := g) y l hy

set_option maxHeartbeats 4000000 in
/-- One lane group: sixteen columns of the eight rows. -/
theorem trip (S₁ : S2048.Idx → F .f32) (G : S2x8x2048.Idx → F .f32) (k : Fin k0_t1_loop.trips) :
    (loopInv d L S₁ G k.val () : sProp 𝕄)
      ⊢ wp frame (wpE (defs₀ (F := F)) 𝒱₀ (me d L) none) Set.univ
          (k0_t1_body L xV (Memref.isWhole_whole _) sV (Memref.isWhole_whole _) oV (Memref.isWhole_whole _)
            bS (Memref.isWhole_whole _) bI (Memref.isWhole_whole _) bX (Memref.isWhole_whole _) bO (Memref.isWhole_whole _)
            cc0_scratch4 cc0_scratch5 cc0_scratch6 cc0_scratch7 cc0_scoped0 k ())
          fun _ => loopInv d L S₁ G (k.val + 1) () := by
  unfold loopInv
  iintro ⟨B0, B1, B2, %g, %hg, B3⟩
  unfold k0_t1_body
  sl_exec
  sl_step
  isplitl [B0]; · iexact B0
  isplitl [B1]; · iexact B1
  isplitl [B2]; · iexact B2
  iexists _
  isplitr
  rotate_left
  · iexact B3
  ipureintro
  intro r c hc
  by_cases h₁ : c.val < 16 * k.val
  · refine Eq.trans ?_ (hg r c h₁)
    refine writes_miss g _ (ix3 0 r c) ?_
    sl_unfold_run_names
    refine List.forall_mem_cons.2 ⟨row_not_mem k r 7 c (k0_off10 k) (k0_off10_inb k) (k0_off10_eq k) h₁, ?_⟩
    refine List.forall_mem_cons.2 ⟨row_not_mem k r 6 c (k0_off9 k) (k0_off9_inb k) (k0_off9_eq k) h₁, ?_⟩
    refine List.forall_mem_cons.2 ⟨row_not_mem k r 5 c (k0_off8 k) (k0_off8_inb k) (k0_off8_eq k) h₁, ?_⟩
    refine List.forall_mem_cons.2 ⟨row_not_mem k r 4 c (k0_off7 k) (k0_off7_inb k) (k0_off7_eq k) h₁, ?_⟩
    refine List.forall_mem_cons.2 ⟨row_not_mem k r 3 c (k0_off6 k) (k0_off6_inb k) (k0_off6_eq k) h₁, ?_⟩
    refine List.forall_mem_cons.2 ⟨row_not_mem k r 2 c (k0_off5 k) (k0_off5_inb k) (k0_off5_eq k) h₁, ?_⟩
    refine List.forall_mem_cons.2 ⟨row_not_mem k r 1 c (k0_off4 k) (k0_off4_inb k) (k0_off4_eq k) h₁, ?_⟩
    refine List.forall_mem_cons.2 ⟨row_not_mem k r 0 c (k0_off3 k) (k0_off3_inb k) (k0_off3_eq k) h₁, ?_⟩
    exact fun p hp => nomatch hp
  · refine writes_hit g (tgt S₁ G) _ ?_ (ix3 0 r c) ?_
    · sl_unfold_run_names
      refine List.forall_mem_cons.2 ⟨fun x => row_piece S₁ G k 7 _ _ _ _ (k0_off2_eq k) (k0_off10_eq k) x, ?_⟩
      refine List.forall_mem_cons.2 ⟨fun x => row_piece S₁ G k 6 _ _ _ _ (k0_off2_eq k) (k0_off9_eq k) x, ?_⟩
      refine List.forall_mem_cons.2 ⟨fun x => row_piece S₁ G k 5 _ _ _ _ (k0_off2_eq k) (k0_off8_eq k) x, ?_⟩
      refine List.forall_mem_cons.2 ⟨fun x => row_piece S₁ G k 4 _ _ _ _ (k0_off2_eq k) (k0_off7_eq k) x, ?_⟩
      refine List.forall_mem_cons.2 ⟨fun x => row_piece S₁ G k 3 _ _ _ _ (k0_off2_eq k) (k0_off6_eq k) x, ?_⟩
      refine List.forall_mem_cons.2 ⟨fun x => row_piece S₁ G k 2 _ _ _ _ (k0_off2_eq k) (k0_off5_eq k) x, ?_⟩
      refine List.forall_mem_cons.2 ⟨fun x => row_piece S₁ G k 1 _ _ _ _ (k0_off2_eq k) (k0_off4_eq k) x, ?_⟩
      refine List.forall_mem_cons.2 ⟨fun x => row_piece S₁ G k 0 _ _ _ _ (k0_off2_eq k) (k0_off3_eq k) x, ?_⟩
      exact fun p hp => nomatch hp
    · sl_unfold_run_names
      have h₂ : c.val < 16 * k.val + 16 := by omega
      fin_cases r
      · exact ⟨_, .tail _ (.tail _ (.tail _ (.tail _ (.tail _ (.tail _ (.tail _ (.head _))))))), row_mem k 0 c (k0_off3 k) (k0_off3_inb k) (k0_off3_eq k) (Nat.not_lt.1 h₁) h₂⟩
      · exact ⟨_, .tail _ (.tail _ (.tail _ (.tail _ (.tail _ (.tail _ (.head _)))))), row_mem k 1 c (k0_off4 k) (k0_off4_inb k) (k0_off4_eq k) (Nat.not_lt.1 h₁) h₂⟩
      · exact ⟨_, .tail _ (.tail _ (.tail _ (.tail _ (.tail _ (.head _))))), row_mem k 2 c (k0_off5 k) (k0_off5_inb k) (k0_off5_eq k) (Nat.not_lt.1 h₁) h₂⟩
      · exact ⟨_, .tail _ (.tail _ (.tail _ (.tail _ (.head _)))), row_mem k 3 c (k0_off6 k) (k0_off6_inb k) (k0_off6_eq k) (Nat.not_lt.1 h₁) h₂⟩
      · exact ⟨_, .tail _ (.tail _ (.tail _ (.head _))), row_mem k 4 c (k0_off7 k) (k0_off7_inb k) (k0_off7_eq k) (Nat.not_lt.1 h₁) h₂⟩
      · exact ⟨_, .tail _ (.tail _ (.head _)), row_mem k 5 c (k0_off8 k) (k0_off8_inb k) (k0_off8_eq k) (Nat.not_lt.1 h₁) h₂⟩
      · exact ⟨_, .tail _ (.head _), row_mem k 6 c (k0_off9 k) (k0_off9_inb k) (k0_off9_eq k) (Nat.not_lt.1 h₁) h₂⟩
      · exact ⟨_, .head _, row_mem k 7 c (k0_off10 k) (k0_off10_inb k) (k0_off10_eq k) (Nat.not_lt.1 h₁) h₂⟩

theorem trips_loop : k0_t1_loop.trips = 128 := by decide

omit [FloatOps F] in
/-- The first of the two staged blocks, as eight rows. -/
theorem block_emb (h : S8x2048.numel = (Rect.unit (s := S2x8x2048) ![0, 0, 0] S1x8x2048.size inb_S2x8x2048_S1x8x2048_0_0_0).shape.numel)
    (r : Fin 8) (c : Fin 2048) :
    (Rect.unit (s := S2x8x2048) ![0, 0, 0] S1x8x2048.size inb_S2x8x2048_S1x8x2048_0_0_0).emb (Shape.reshapeEquiv h (ix2 r c)) = ix3 0 r c := by
  have e : Shape.reshapeEquiv h (ix2 r c) = ix3 (0 : Fin 1) r c := reshapeEquiv_ix2_1ab _ r c
  rw [e]
  funext a
  apply Fin.ext
  rw [Rect.emb_apply]
  fin_cases a
  · rfl
  · show 0 + 1 * r.val = r.val; omega
  · show 0 + 1 * c.val = c.val; omega

omit [FloatOps F] in
/-- The rows as fetched, read back through the same slice. -/
theorem fetched_rows (X₁ : S2048x2048.Idx → F .f32) (f2 : S2x8x2048.Idx → F .f32) (r : Fin 8) (c : Fin 2048) :
    View.write (Elt F) (((bX).slice (Rect.unit (s := S2x8x2048) ![0, 0, 0] S1x8x2048.size inb_S2x8x2048_S1x8x2048_0_0_0) (fun _ => rfl)).squeeze
          S8x2048 squeezes_S1x8x2048_S8x2048).view f2 (ReadAs.same.apply (View.read (Elt F) (xK L).view X₁)) Finset.univ (ix3 0 r c)
      = X₁ ((rowsK L).emb (ix2 r c)) := by
  have h := congrFun (View.read_write_univ (v := (((bX).slice (Rect.unit (s := S2x8x2048) ![0, 0, 0] S1x8x2048.size inb_S2x8x2048_S1x8x2048_0_0_0) (fun _ => rfl)).squeeze
          S8x2048 squeezes_S1x8x2048_S8x2048).view) f2 (ReadAs.same.apply (View.read (Elt F) (xK L).view X₁))) (ix2 r c)
  rw [← block_emb (squeezes_S1x8x2048_S8x2048).numel_eq r c]
  exact h

omit [FloatOps F] in
theorem row_col (c : Fin 2048) (r : Fin 8) : (ix1 c : S2048.Idx) = ix1 ((rowsK L).emb (ix2 r c) 1) := by
  have : c = (rowsK L).emb (ix2 r c) 1 := by
    apply Fin.ext
    rw [Rect.emb_apply]
    have h : (rowsK L).off 1 = 0 := by show k0_off1 L 1 = 0; rw [k0_off1_eq]; rfl
    rw [h]; show c.val = 0 + 1 * c.val; omega
  exact congrArg ix1 this

omit [FloatOps F] in
/-- Contents a view reads alike agree on its elements. -/
theorem eq_of_read {κ : Kind} {sp : Space} {s : Shape} {e : EltTy} (v : View sig κ sp s e) {f g : v.ty.Contents (Elt F)}
    (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact (cast_bijective _).injective hx

/-- The rows as sent out: each place of the subcore's rows holds its value. -/
theorem sent_rows (G g : S2x8x2048.Idx → F .f32) (hX : ∀ (r : Fin 8) (c : Fin 2048), G (ix3 0 r c) = X d ((rowsK L).emb (ix2 r c)))
    (hg : Done (S₀ d) G 128 g) (w : S8x2048.Idx → F .f32) (hw : ∀ (r : Fin 8) (c : Fin 2048), w (ix2 r c) = g (ix3 0 r c)) :
    ∀ i ∈ (oK L).view.set, (oK L).view.writes (Elt F) (O₀ d) [⟨Rect.whole S8x2048, w⟩] i = scOut X S₀ d i := by
  refine eq_of_read (oK L).view (funext fun j => ?_)
  have h : View.read (Elt F) (oK L).view ((oK L).view.writes (Elt F) (O₀ d) [⟨Rect.whole S8x2048, w⟩]) j = w j := by
    refine View.read_writes_apply_of_pieces (Val := Elt F) (e := .f32) (oK L).view _ w _ ?_ _ ⟨_, .head _, by rw [Rect.set_whole]; exact Finset.mem_univ _⟩
    refine List.forall_mem_cons.2 ⟨fun x => ?_, fun p hp => nomatch hp⟩
    rw [Rect.emb_whole_apply]
  rw [h]
  obtain ⟨r, c, rfl⟩ : ∃ (r : Fin 8) (c : Fin 2048), j = ix2 r c := ⟨j 0, j 1, by funext a; fin_cases a <;> rfl⟩
  rw [hw, hg r c (by omega), hX, row_col L c r]
  rfl

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp ∗ (xPts X d L ∗ sPts S₀ d L ∗ oPts d L (O₀ d))
        ∗ scopedBufs (me d L) ∗ scopedSems0 (me d L) ∗ owes (me d L) O W)
      ⊢ wp frame (wpE (defs₀ (F := F)) 𝒱₀ (me d L) none) Set.univ
          (cc0__sc_body L xV (Memref.isWhole_whole _) sV (Memref.isWhole_whole _) oV (Memref.isWhole_whole _)
            bS (Memref.isWhole_whole _) bI (Memref.isWhole_whole _) bX (Memref.isWhole_whole _) bO (Memref.isWhole_whole _)
            cc0_scratch4 cc0_scratch5 cc0_scratch6 cc0_scratch7 cc0_scoped0)
          fun _ => iprop((xPts X d L ∗ sPts S₀ d L ∗ oPts d L (scOut X S₀ d))
            ∗ scopedBufs (me d L) ∗ scopedSems0 (me d L)
            ∗ ∃ W', ⌜∀ p ∈ W', p ∈ W ∨ p.2 = none⌝ ∗ owes (me d L) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hx, Hs, Ho⟩, ⟨⟨%f0, H0⟩, ⟨%f1, H1⟩, ⟨%f2, H2⟩, ⟨%f3, H3⟩, Hbufs⟩, ⟨HsemA, HsemB, HsemC, Hsems⟩, HO⟩
  ihave Hmw := (show levAts (K (F := F)).L (K (F := F)).lev ⊢ Transfers.MayWaits (me d L) (default : HIx 1) O from
    (K (F := F)).mayWaits_none (thr := me d L) hO) $$ Hlv
  ihave B0 := (Entails.of_eq (show ((me d L).loc cc0_scratch0 ↦{fullShare} f0 : sProp 𝕄) = (bS).view.loc (me d L) ↦{fullShare} f0 from rfl)) $$ H0
  ihave B1 := (Entails.of_eq (show ((me d L).loc cc0_scratch1 ↦{fullShare} f1 : sProp 𝕄) = (bI).view.loc (me d L) ↦{fullShare} f1 from rfl)) $$ H1
  ihave B2 := (Entails.of_eq (show ((me d L).loc cc0_scratch2 ↦{fullShare} f2 : sProp 𝕄) = (bX).view.loc (me d L) ↦{fullShare} f2 from rfl)) $$ H2
  ihave B3 := (Entails.of_eq (show ((me d L).loc cc0_scratch3 ↦{fullShare} f3 : sProp 𝕄) = (bO).view.loc (me d L) ↦{fullShare} f3 from rfl)) $$ H3
  sl_exec
  have hI : (bI).view.writes (Elt F) (bI).view.junk (tile_body.sl.B1_128 S₀ d L f0) = fun j => recip (S₀ d j) := by
    funext y
    show View.read (Elt F) (bI).view ((bI).view.writes (Elt F) (bI).view.junk (tile_body.sl.B1_128 S₀ d L f0)) y = _
    refine View.read_writes_apply_of_pieces (Val := Elt F) (e := .f32) (bI).view _ (fun j : S2048.Idx => recip (S₀ d j)) _ ?_ y ?_
    · sl_unfold_run_names
      repeat' (refine List.forall_mem_cons.2 ⟨fun x => recip_piece _ _ (S₀ d) f0 x, ?_⟩)
      exact fun p hp => nomatch hp
    · exact View.cover_of_tiledL (s := S2048) (tile_body.sl.B1_128 S₀ d L f0) S16.size (by sl_kernel_rfl) y
  have hS : View.write (Elt F) (bS).view f0 (tile_body.sl.dma0 S₀ d) Finset.univ = S₀ d := fetched_scales (S₀ d) f0
  have hX := fetched_rows L (X d) f2
  rw [hI, hS]
  generalize hG : View.write (Elt F) (((bX).slice (Rect.unit (s := S2x8x2048) ![0, 0, 0] S1x8x2048.size inb_S2x8x2048_S1x8x2048_0_0_0) (fun _ => rfl)).squeeze
          S8x2048 squeezes_S1x8x2048_S8x2048).view f2 (tile_body.sl.dma384 X d L) Finset.univ = G
  replace hX : ∀ (r : Fin 8) (c : Fin 2048), (G : S2x8x2048.Idx → F .f32) (ix3 0 r c) = X d ((rowsK L).emb (ix2 r c)) := by
    intro r c; rw [← hX r c]; exact (congrFun hG _).symm
  clear hG hI hS
  sl_for (loopInv d L (S₀ d) G) $$ [B0 B1 B2 B3]
  case region =>
    intro k _
    exact trip d L (S₀ d) G k
  · unfold loopInv
    isplitl [B0]; · iexact B0
    isplitl [B1]; · iexact B1
    isplitl [B2]; · iexact B2
    iexists f3
    isplitr
    · ipureintro; exact fun r c h => absurd h (Nat.not_lt_zero _)
    · iexact B3
  iintro %_ HI
  unfold loopInv
  icases HI with ⟨B0, B1, B2, %g, %hg, B3⟩
  sl_exec
  sl_step
  rw [show Scf.trips k0_t1_loop.lb k0_t1_loop.ub k0_t1_loop.st = 128 from trips_loop] at hg
  isplitl [Hx Hs Ho]
  · isplitl [Hx]; · iexact Hx
    isplitl [Hs]; · iexact Hs
    iapply (Entails.of_eq (pointsTo_congr (sent_rows X S₀ O₀ d L G g hX hg (tile_body.sl.dma0_1 g) (fun r c => by
      rw [← block_emb (squeezes_S1x8x2048_S8x2048).numel_eq r c]; rfl))))
    iexact Ho
  isplitl [B0 B1 B2 B3 Hbufs]
  · isplitl [B0]; · iexists _; iexact B0
    isplitl [B1]; · iexists _; iexact B1
    isplitl [B2]; · iexists _; iexact B2
    isplitl [B3]; · iexists _; iexact B3
    iexact Hbufs
  isplitl [HsemA HsemB HsemC Hsems]
  · isplitl [HsemA]; · iexact HsemA
    isplitl [HsemB]; · iexact HsemB
    isplitl [HsemC]; · iexact HsemC
    iexact Hsems
  iexists (insert (SemLoc.dma cc0_scratch6.sem, (default : HIx 1)) (insert (SemLoc.dma cc0_scratch4.sem, (default : HIx 1)) (insert (SemLoc.dma cc0_scoped0.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile
end Cert.Proof.K
-- ==== Proof.Deal.lean ====
/-
  The SparseCore call's obligations: what the call hands each of the thirty-two vector subcores (its eight rows of `x` and of
  the output, and a read share of the scales), that each runs its task on it, and that the arrays come apart into these pieces
  and together again.
-/
module

public import proofs.«01_k».proof.Proof.Tile

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S2048x2048 EltTy.f32)
local notation "sV" => (Memref.whole Cert.KernelIdeal.main_v1_scv : Memref Cert.KernelIdeal.sig Kind.scVector Space.hbm Cert.KernelIdeal.S2048 EltTy.f32)
local notation "oV" => (Memref.whole Cert.KernelIdeal.main_v2_scv : Memref Cert.KernelIdeal.sig Kind.scVector Space.hbm Cert.KernelIdeal.S2048x2048 EltTy.f32)

variable (X : (d : Dev nD) → Buf (Elt F) (xLoc d)) (S₀ : (d : Dev nD) → Buf (Elt F) (sLoc d)) (O₀ : (d : Dev nD) → Buf (Elt F) (oLoc d))

/-! ## The subcores -/

/-- Subcore `s` of SparseCore `c`, as the kernel's grid numbers it. -/
def coordsV (c : Fin (grid0.bound 0)) (s : Fin (grid0.bound 1)) : grid0.Coords :=
  fun | 0 => c | 1 => s | ⟨_ + 2, h⟩ => absurd h (Nat.not_lt.2 (Nat.le_add_left _ _))

/-- The same from a pair. -/
abbrev tile (p : Fin 2 × Fin 16) : grid0.Coords := coordsV p.1 p.2

/-- What a task is handed, and what it hands back. -/
abbrev given (d : Dev nD) (L : grid0.Coords) : sProp 𝕄 := iprop(xPts X d L ∗ sPts S₀ d L ∗ oPts d L (O₀ d))
abbrev taken (d : Dev nD) (L : grid0.Coords) : sProp 𝕄 := iprop(xPts X d L ∗ sPts S₀ d L ∗ oPts d L (scOut X S₀ d))

/-! ## What the handshakes carry -/

/-- A SparseCore is handed its sixteen tasks' pieces and hands back theirs. -/
def P : (K (F := F)).Pay (nD := nD) (Val := Elt F) (Name := ℕ) (U := UU) where
  st := fun q d c => match q with | 0 => bigSep Finset.univ fun i : Fin 16 => given X S₀ O₀ d (tile (c, i))
  dn := fun q d c => match q with | 0 => bigSep Finset.univ fun i : Fin 16 => taken X S₀ d (tile (c, i))
  go := fun q d c i => match q with | 0 => given X S₀ O₀ d (tile (c, i))
  td := fun q d c i => match q with | 0 => taken X S₀ d (tile (c, i))
  x := fun _ _ => iprop(emp)

instance P_storable : (P (F := F) X S₀ O₀).IsStorable where
  st q d c := match q with
    | 0 => (inferInstance : BI.Storable (upEmb : UEmb _ 𝕄) (bigSep Finset.univ fun i : Fin 16 => given X S₀ O₀ d (tile (c, i))))
  dn q d c := match q with
    | 0 => (inferInstance : BI.Storable (upEmb : UEmb _ 𝕄) (bigSep Finset.univ fun i : Fin 16 => taken X S₀ d (tile (c, i))))
  go q d c i := match q with
    | 0 => (inferInstance : BI.Storable (upEmb : UEmb _ 𝕄) (given X S₀ O₀ d (tile (c, i))))
  td q d c i := match q with
    | 0 => (inferInstance : BI.Storable (upEmb : UEmb _ 𝕄) (taken X S₀ d (tile (c, i))))

theorem vecSplit : (K (F := F)).VecSplit' (P X S₀ O₀) 0 := by
  intro d c
  show (bigSep Finset.univ fun i : Fin 16 => given X S₀ O₀ d (tile (c, i))) ⊢ |={Set.univ}=> iprop(
      (bigSep Finset.univ fun i : Fin 16 => given X S₀ O₀ d (tile (c, i)))
      ∗ ((bigSep Finset.univ fun i : Fin 16 => taken X S₀ d (tile (c, i))) -∗ bigSep Finset.univ fun i : Fin 16 => taken X S₀ d (tile (c, i))))
  iintro H; imodintro
  isplitl [H]; · iexact H
  iintro H; iexact H

/-! ## The task's obligation -/

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) sV (Memref.isWhole_whole _) oV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'; isplitr
  · ipureintro; exact fun p hp => (h p hp).imp_right .inl
  · iexact HO

set_option maxRecDepth 16384 in
theorem tileObl : (K (F := F)).TileObl (D (F := F)) 𝒱 (P X S₀ O₀) v₀ 0 := by
  intro d c i O W hO _ _
  simp only [show (P X S₀ O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X S₀ O₀ d (coordsV ⟨_, hci.1⟩ ⟨_, hci.2⟩) facts O W hO).trans (wp_mono frame _ _ fun _ => obl_post)

/-! ## The arrays come apart into the tasks' pieces -/

/-- The rows of a subcore as a set of places. -/
abbrev rowsOf (p : Fin 2 × Fin 16) : Finset S2048x2048.Idx := (rowsK (tile p)).set

theorem mem_rowsOf (p : Fin 2 × Fin 16) (j : S2048x2048.Idx) :
    j ∈ rowsOf p ↔ 16 * p.2.val + 8 * p.1.val ≤ (j 0).val ∧ (j 0).val < 16 * p.2.val + 8 * p.1.val + 8 := by
  unfold rowsOf rowsK
  rw [Rect.mem_set_unit, k0_off1_eq]
  constructor
  · intro h
    exact h 0
  · intro h a
    fin_cases a
    · exact h
    · exact ⟨Nat.zero_le _, (j 1).isLt.trans_eq (Nat.zero_add _).symm⟩

theorem rows_disjoint : ∀ p ∈ (Finset.univ : Finset (Fin 2 × Fin 16)), ∀ p' ∈ (Finset.univ : Finset (Fin 2 × Fin 16)), p ≠ p' →
    Disjoint (rowsOf p) (rowsOf p') := fun p _ p' _ hne => Finset.disjoint_left.mpr fun j h h' => by
  rw [mem_rowsOf] at h h'
  have h1 := p.1.isLt
  have h2 := p'.1.isLt
  exact hne (Prod.ext (Fin.ext (by omega)) (Fin.ext (by omega)))

/-- All the subcores' rows: the first 256. -/
abbrev scRows : Finset S2048x2048.Idx := (Finset.univ : Finset (Fin 2 × Fin 16)).biUnion rowsOf

theorem mem_scRows (j : S2048x2048.Idx) : j ∈ scRows ↔ (j 0).val < 256 := by
  rw [Finset.mem_biUnion]
  constructor
  · rintro ⟨p, -, h⟩
    rw [mem_rowsOf] at h
    have h1 := p.1.isLt
    have h2 := p.2.isLt
    omega
  · intro h
    refine ⟨(⟨(j 0).val / 8 % 2, by omega⟩, ⟨(j 0).val / 16, by omega⟩), Finset.mem_univ _, ?_⟩
    rw [mem_rowsOf]
    show 16 * ((j 0).val / 16) + 8 * ((j 0).val / 8 % 2) ≤ _ ∧ _ < 16 * ((j 0).val / 16) + 8 * ((j 0).val / 8 % 2) + 8
    omega

theorem set_xK (L : grid0.Coords) : (xK L).view.set = (rowsK L).set := by
  show ((View.whole (main_v0_scv : Ref sig .scVector)).slice (rowsK L)).set = _
  rw [View.set_slice]; exact Finset.map_refl
theorem set_oK (L : grid0.Coords) : (oK L).view.set = (rowsK L).set := by
  show ((View.whole (main_v2_scv : Ref sig .scVector)).slice (rowsK L)).set = _
  rw [View.set_slice]; exact Finset.map_refl

omit [FloatOps F] in
theorem xPts_eq (d : Dev nD) (p : Fin 2 × Fin 16) : (xPts X d (tile p) : sProp 𝕄) = xLoc d ↦[rowsOf p]{fullShare} X d := by
  show ((xK (tile p)).view.loc (me d (tile p)) ↦[(xK (tile p)).view.set]{fullShare} X d : sProp 𝕄) = _
  rw [set_xK]
omit [FloatOps F] in
theorem oPts_eq (d : Dev nD) (p : Fin 2 × Fin 16) (f : Buf (Elt F) (oLoc d)) : (oPts d (tile p) f : sProp 𝕄) = oLoc d ↦[rowsOf p]{fullShare} f := by
  show ((oK (tile p)).view.loc (me d (tile p)) ↦[(oK (tile p)).view.set]{fullShare} f : sProp 𝕄) = _
  rw [set_oK]
omit [FloatOps F] in
theorem sPts_eq (d : Dev nD) (p : Fin 2 × Fin 16) : (sPts S₀ d (tile p) : sProp 𝕄) = sLoc d ↦{Transfers.shareTok fullShare 32 (wid (tile p))} S₀ d := rfl

/-- The thirty-two subcores, numbered. -/
def number : Fin 2 × Fin 16 ≃ Fin 32 := Equiv.ofBijective (fun p => wid (tile p)) <|
  (Fintype.bijective_iff_injective_and_card _).mpr ⟨fun p p' h => by
    have h' : 2 * p.2.val + p.1.val = 2 * p'.2.val + p'.1.val := congrArg Fin.val h
    have h1 := p.1.isLt
    have h2 := p'.1.isLt
    exact Prod.ext (Fin.ext (by omega)) (Fin.ext (by omega)), by simp⟩

omit [FloatOps F] in
/-- A 2048 × 2048 array: the subcores' rows, and the others. -/
theorem rows_apart {ℓ : Loc nD τ sig} (I : (p : Fin 2 × Fin 16) → Finset (Idx ℓ)) (h : ∀ p ∈ (Finset.univ : Finset (Fin 2 × Fin 16)), ∀ p' ∈ (Finset.univ : Finset (Fin 2 × Fin 16)), p ≠ p' → Disjoint (I p) (I p'))
    (f : Buf (Elt F) ℓ) :
    (ℓ ↦{fullShare} f : sProp 𝕄) = iprop((bigSep Finset.univ fun p => ℓ ↦[I p]{fullShare} f) ∗ ℓ ↦[Finset.univ \ Finset.univ.biUnion I]{fullShare} f) := by
  have := pointsTo_split_subset (Ix := HIx 1) (Name := ℕ) (U := UU) (Lvl := ℕ) (ℓ := ℓ) (q := fullShare) (f := f) (Finset.subset_univ (Finset.univ.biUnion I))
  rw [BI.Entails.antisymm this.1 this.2, pointsTo_biUnion Finset.univ I h]

omit [FloatOps F] in
/-- The scales: a read share for each subcore, and what is kept. -/
theorem scales_apart (d : Dev nD) :
    (sLoc d ↦{fullShare} S₀ d : sProp 𝕄) = iprop((sLoc d ↦{Transfers.shareDrop fullShare 32} S₀ d) ∗ bigSep Finset.univ fun p : Fin 2 × Fin 16 => sPts S₀ d (tile p)) := by
  have := Transfers.pointsTo_toks (Ix := HIx 1) (Name := ℕ) (U := UU) (Lvl := ℕ) (ℓ := sLoc d) (S := Finset.univ) (f := S₀ d) fullShare 32
  rw [BI.Entails.antisymm this.1 this.2, bigSep_univ_equiv number]
  rfl

omit [FloatOps F] in
theorem bigSep_three {I : Type} [Fintype I] (A B C : I → sProp 𝕄) :
    (bigSep Finset.univ fun i => iprop(A i ∗ B i ∗ C i)) = iprop(bigSep Finset.univ A ∗ bigSep Finset.univ B ∗ bigSep Finset.univ C) := by
  rw [bigSep_sep', bigSep_sep']

/-- What the call takes for both SparseCores: the subcores' rows of `x` and of the output, and the scales' shares. -/
theorem st_eq (d : Dev nD) : (bigSep Finset.univ fun c : Fin ((K (F := F)).nCore 0) => (P X S₀ O₀).st 0 d c)
    = iprop((bigSep Finset.univ fun p : Fin 2 × Fin 16 => xLoc d ↦[rowsOf p]{fullShare} X d) ∗ (bigSep Finset.univ fun p : Fin 2 × Fin 16 => sPts S₀ d (tile p))
        ∗ bigSep Finset.univ fun p : Fin 2 × Fin 16 => oLoc d ↦[rowsOf p]{fullShare} O₀ d) := by
  show (bigSep Finset.univ fun c : Fin 2 => bigSep Finset.univ fun i : Fin 16 => given X S₀ O₀ d (tile (c, i))) = _
  rw [← bigSep_univ_prod (fun p : Fin 2 × Fin 16 => given X S₀ O₀ d (tile p)), bigSep_three]
  simp only [xPts_eq, oPts_eq]
/-- and what it hands back: the output's rows quantised. -/
theorem dn_eq (d : Dev nD) : (bigSep Finset.univ fun c : Fin ((K (F := F)).nCore 0) => (P X S₀ O₀).dn 0 d c)
    = iprop((bigSep Finset.univ fun p : Fin 2 × Fin 16 => xLoc d ↦[rowsOf p]{fullShare} X d) ∗ (bigSep Finset.univ fun p : Fin 2 × Fin 16 => sPts S₀ d (tile p))
        ∗ bigSep Finset.univ fun p : Fin 2 × Fin 16 => oLoc d ↦[rowsOf p]{fullShare} scOut X S₀ d) := by
  show (bigSep Finset.univ fun c : Fin 2 => bigSep Finset.univ fun i : Fin 16 => taken X S₀ d (tile (c, i))) = _
  rw [← bigSep_univ_prod (fun p : Fin 2 × Fin 16 => taken X S₀ d (tile p)), bigSep_three]
  simp only [xPts_eq, oPts_eq]

/-- The output after the call: the subcores' rows quantised, the others as they were. -/
def scAfter (d : Dev nD) : Buf (Elt F) (oLoc d) := fun j : S2048x2048.Idx => if (j 0).val < 256 then scOut X S₀ d j else O₀ d j

theorem out_join (d : Dev nD) :
    (iprop((bigSep Finset.univ fun p : Fin 2 × Fin 16 => oLoc d ↦[rowsOf p]{fullShare} scOut X S₀ d) ∗ oLoc d ↦[Finset.univ \ Finset.univ.biUnion rowsOf]{fullShare} O₀ d) : sProp 𝕄)
      = oLoc d ↦{fullShare} scAfter X S₀ O₀ d := by
  rw [rows_apart (ℓ := oLoc d) rowsOf rows_disjoint (scAfter X S₀ O₀ d)]
  refine congrArg₂ (fun A B : sProp 𝕄 => iprop(A ∗ B)) ?_ ?_
  · refine bigSep_congr fun p _ => pointsTo_congr fun j hj => ?_
    exact (if_pos ((mem_scRows j).mp (Finset.mem_biUnion.mpr ⟨p, Finset.mem_univ _, hj⟩))).symm
  · refine pointsTo_congr fun j hj => ?_
    exact (if_neg fun h => (Finset.mem_sdiff.mp hj).2 ((mem_scRows j).mpr h)).symm

end Cert.Proof.K

end
-- ==== Proof.Region.lean ====
/-
  The TensorCore's half of the kernel: seven grid points, each a block of 256 rows of `x` and the row of scales brought to
  VMEM, the block quantised, and the result written back one block further down the output, whose first 256 rows stay as the
  SparseCores left them.
-/
module

public import proofs.«01_k».proof.Proof.Base
public import Idealize.ShloMosaic.Lib.Pipeline.RegionsLoop
public import Idealize.ShloMosaic.Lib.Pipeline.Value
public import Idealize.ShloMosaic.Lib.Pipeline.FrameBody
public import Idealize.ShloMosaic.Lib.VecWindow

@[expose] public section

noncomputable section

namespace Cert.Proof.K

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx
open Idealize.ShloMosaic.Pipeline (Dat Cfg Window BodyObligation)

variable {F : FTy → Type} [FloatOps F]

local notation "𝕄" => MT nD τ sig (HIx 1) (Elt F) ℕ UU ℕ

/-! ## The body -/

/-- The body's payload, element by element. -/
theorem pay_tc (x : Vec F S256x2048 .f32) (s : Vec F S1x2048 .f32) (r : Fin 256) (q : Fin 2048) :
    k1_pay1 x s (ix2 r q) = tcVal (x (ix2 r q)) (s (ix2 0 q)) := by
  have e1 : shapeCast S256x2048 x shapeCasts_S256x2048_S256x2048 = x := funext fun j => shapeCast_apply x _ _ _ rfl
  have e2 : shapeCast S1x2048 s shapeCasts_S1x2048_S1x2048 = s := funext fun j => shapeCast_apply s _ _ _ rfl
  have hb : ∀ v : Vec F S1x2048 .f32, broadcastTo S256x2048 v broadcasts_S1x2048_S256x2048 (ix2 r q) = v (ix2 0 q) := fun v => by
    exact broadcastTo_apply v _ _ _ (fun a => by fin_cases a <;> rfl)
  have h6 := hb (divf (broadcast S1x2048 (Scalar.ofBits .f32 0x3F800000#32)) s)
  have hs := hb s
  unfold k1_pay1
  rw [e1, e2]
  generalize broadcastTo S256x2048 (divf (broadcast S1x2048 (Scalar.ofBits .f32 0x3F800000#32)) s) broadcasts_S1x2048_S256x2048 = v6 at h6 ⊢
  generalize broadcastTo S256x2048 s broadcasts_S1x2048_S256x2048 = v30 at hs ⊢
  show FloatOps.mulf (signed (FloatOps.mulf (x (ix2 r q)) (v6 (ix2 r q))) (mag (FloatOps.absf (FloatOps.mulf (x (ix2 r q)) (v6 (ix2 r q)))))) (v30 (ix2 r q)) = _
  rw [h6, hs]
  rfl

/-- The body, run on any staging buffers: it leaves its payload in the result's and the others as they were. -/
theorem tc_run (c : Dev nD) (i : grid1.Coords) (M0 : Memref sig .tc .vmem S256x2048 .f32) (h0 : M0.IsWhole) (M1 : Memref sig .tc .vmem S1x2048 .f32) (h1 : M1.IsWhole)
    (M2 : Memref sig .tc .hbm S2048x2048 .f32) (h2 : M2.IsWhole) (M3 : Memref sig .tc .vmem S256x2048 .f32) (h3 : M3.IsWhole)
    (X0 : Vec F S256x2048 .f32) (X1 : Vec F S1x2048 .f32) (X3 : Vec F S256x2048 .f32) (Q : PUnit → sProp 𝕄) :
    iprop(owns c.tc M0 fullShare X0 ∗ owns c.tc M1 fullShare X1 ∗ owns c.tc M3 fullShare X3
        ∗ (iprop(owns c.tc M0 fullShare X0 ∗ owns c.tc M1 fullShare X1 ∗ owns c.tc M3 fullShare (k1_pay1 X0 X1)) -∗ Q ⟨⟩))
      ⊢ wp frame (wpE (defs₀ (F := F)) 𝒱₀ c.tc none) Set.univ (cc1__tc_body i M0 h0 M1 h1 M2 h2 M3 h3) Q := by
  rw [cc1__tc_body_eq_skeleton]
  unfold cc1__tc_body_skel owns
  iintro ⟨⟨%f0, %e0, H0⟩, ⟨%f1, %e1, H1⟩, ⟨%f3, -, H3⟩, Hk⟩
  sl_exec
  sl_step
  iapply Hk
  isplitl [H0]
  · iexists f0; isplitr; · ipureintro; exact e0
    iexact H0
  isplitl [H1]
  · iexists f1; isplitr; · ipureintro; exact e1
    iexact H1
  iexists _; isplitr; swap; · iexact H3
  ipureintro
  rw [View.read_writes_full, View.readAt_full, View.readAt_full, e0, e1]

/-! ## The proof data -/

variable (V : (c : Dev nD) → (b : Ref sig .tc) → Buf (Elt F) ((c.tc : Thread nD τ).loc b))

/-- The blocks of `x` and of the scales the pipeline stages at a point. -/
def xBlk (c : Dev nD) (t : Fin cfg1.N) : Vec F S256x2048 .f32 := ((cfg1.win 0).blk t).view.read (Elt F) (V c main_v0)
def sBlk (c : Dev nD) (t : Fin cfg1.N) : Vec F S1x2048 .f32 := ((cfg1.win 1).blk t).view.read (Elt F) (V c main_v3)

/-- What the pipeline keeps: the inputs' buffers as staged, the result's at the body's payload; nothing is owed, and every
    wait recorded lies low enough for the SparseCore call that came before. -/
def dat (c : Dev nD) : Dat τ (Elt F) (HIx 1) ℕ UU ℕ cfg1 c where
  A w := V c (Pipeline.arrRef spec1 w)
  after w t := match w with
    | ⟨0, _⟩ => xBlk V c t
    | ⟨1, _⟩ => sBlk V c t
    | ⟨2, _⟩ => k1_pay1 (xBlk V c t) (sBlk V c t)
  Φ _ := Pipeline.scopedRest (Ix := HIx 1) (Name := ℕ) (U := UU) (Lvl := ℕ) (Val := Elt F) spec1 c
  q _ := fullShare
  owed _ := 0
  recorded _ := {p | (K (F := F)).lev ((c.tc : Thread nD τ), p.1) p.2 ≤ 8}

theorem before_x (c : Dev nD) (t : Fin cfg1.N) (d : (cfg1.win 0).block.Idx → Elt F (cfg1.win 0).elt) : (dat V c).before 0 t d = xBlk V c t :=
  ((dat V c).before_in_eq_fetched 0 rfl (fun _ => rfl) (fun _ _ _ => rfl) (fun _ => rfl) t d).trans rfl

theorem before_s (c : Dev nD) (t : Fin cfg1.N) (d : (cfg1.win 1).block.Idx → Elt F (cfg1.win 1).elt) : (dat V c).before 1 t d = sBlk V c t :=
  ((dat V c).before_in_eq_fetched 1 rfl (fun _ => rfl) (fun _ _ _ => rfl) (fun _ => rfl) t d).trans rfl

theorem body_obligation (c : Dev nD) : BodyObligation (dat V c) (defs₀ (F := F)) 𝒱₀ (none : HIx 1) Set.univ := fun t => by
  rw [bigSep_W1, bigSep_W1]
  rw [show (dat V c).Φ t.succ = (dat V c).Φ t.castSucc from rfl, show (dat V c).owesAt (none : HIx 1) t.succ = (dat V c).owesAt none t.castSucc from rfl]
  iintro ⟨HΦ, Howes, ⟨%d0, H0⟩, ⟨%d1, H1⟩, ⟨%d2, H2⟩⟩
  rw [before_x, before_s]
  iapply (tc_run c (grid1.coords t) (win1_0.stage (cfg1.slots t 0)) (hstage1_0 ((cfg1.slots t 0).cast nbuf1_0)) (win1_1.stage (cfg1.slots t 1)) (hstage1_1 ((cfg1.slots t 1).cast nbuf1_1))
    (Memref.whole main_v2) (Memref.isWhole_whole _) (win1_2.stage (cfg1.slots t 2)) (hstage1_2 ((cfg1.slots t 2).cast nbuf1_2)) (xBlk V c t) (sBlk V c t) ((dat V c).before 2 t d2) _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The output's final contents -/

/-- The scales as the TensorCore reads them, and the array it fills. -/
def tcOut (X : S2048x2048.Idx → F .f32) (S₁ : S1x2048.Idx → F .f32) : S2048x2048.Idx → F .f32 := fun j => tcVal (X j) (S₁ (ix2 0 (j 1)))

theorem block_x (t : Fin cfg1.N) : cc1_transform_0 (grid1.coords t) = ![t.val + 1, 0] := by
  rcases fin_N1 t with rfl | rfl | rfl | rfl | rfl | rfl | rfl <;> rfl
theorem block_o (t : Fin cfg1.N) : cc1_transform_3 (grid1.coords t) = ![t.val + 1, 0] := by
  rcases fin_N1 t with rfl | rfl | rfl | rfl | rfl | rfl | rfl <;> rfl
theorem block_s (t : Fin cfg1.N) : cc1_transform_1 (grid1.coords t) = ![0, 0] := by
  rcases fin_N1 t with rfl | rfl | rfl | rfl | rfl | rfl | rfl <;> rfl

theorem lt_seven (t : Fin cfg1.N) : t.val < 7 := t.isLt.trans_eq N_1

/-- Where the element `(r, q)` of block `t` lies. -/
def at_ (t : Fin cfg1.N) (r : Fin 256) (q : Fin 2048) : S2048x2048.Idx :=
  ix2 (⟨256 * (t.val + 1) + r.val, by have := lt_seven t; have := r.isLt; omega⟩ : Fin 2048) q

/-- Every element from row 256 on lies in some block. -/
theorem exists_at (j : S2048x2048.Idx) (hj : 256 ≤ (j 0).val) : ∃ (t : Fin cfg1.N) (r : Fin 256), at_ t r (j 1) = j := by
  have h2 : (j 0).val < 2048 := (j 0).isLt
  have hN : (j 0).val / 256 - 1 < cfg1.N := lt_of_lt_of_eq (by omega : _ < 7) N_1.symm
  refine ⟨⟨(j 0).val / 256 - 1, hN⟩, ⟨(j 0).val % 256, by omega⟩, funext fun a => Fin.ext ?_⟩
  fin_cases a
  · show 256 * ((j 0).val / 256 - 1 + 1) + (j 0).val % 256 = (j 0).val
    omega
  · rfl

theorem emb_x (t : Fin cfg1.N) (r : Fin 256) (q : Fin 2048) : ((cfg1.win 0).blk t).view.emb (ix2 r q : S256x2048.Idx) = at_ t r q := by
  funext a; apply Fin.ext
  have h := congrFun (block_x t)
  fin_cases a
  · show cc1_transform_0 (grid1.coords t) 0 * 256 + 1 * r.val = 256 * (t.val + 1) + r.val
    rw [h]; show (t.val + 1) * 256 + _ = _; omega
  · show cc1_transform_0 (grid1.coords t) 1 * 2048 + 1 * q.val = q.val
    rw [h]; show 0 * 2048 + _ = _; omega
theorem emb_o (t : Fin cfg1.N) (r : Fin 256) (q : Fin 2048) : ((cfg1.win 2).blk t).view.emb (ix2 r q : S256x2048.Idx) = at_ t r q := by
  funext a; apply Fin.ext
  have h := congrFun (block_o t)
  fin_cases a
  · show cc1_transform_3 (grid1.coords t) 0 * 256 + 1 * r.val = 256 * (t.val + 1) + r.val
    rw [h]; show (t.val + 1) * 256 + _ = _; omega
  · show cc1_transform_3 (grid1.coords t) 1 * 2048 + 1 * q.val = q.val
    rw [h]; show 0 * 2048 + _ = _; omega
theorem emb_s (t : Fin cfg1.N) (q : Fin 2048) : ((cfg1.win 1).blk t).view.emb (ix2 0 q : S1x2048.Idx) = (ix2 0 q : S1x2048.Idx) := by
  funext a; apply Fin.ext
  have h := congrFun (block_s t)
  fin_cases a
  · show cc1_transform_1 (grid1.coords t) 0 * 1 + 1 * 0 = 0
    rw [h]; rfl
  · show cc1_transform_1 (grid1.coords t) 1 * 2048 + 1 * q.val = q.val
    rw [h]; show 0 * 2048 + _ = _; omega

theorem flushed_o (c : Dev nD) (t : Fin cfg1.N) :
    (dat V c).flushed 2 t = ((cfg1.win 2).blk t).view.read (Elt F) (tcOut (V c main_v0) (V c main_v3)) := by
  funext y
  rw [View.read_apply]
  obtain ⟨r, q, rfl⟩ : ∃ (r : Fin 256) (q : Fin 2048), y = (ix2 r q : S256x2048.Idx) := ⟨y 0, y 1, funext fun a => by fin_cases a <;> rfl⟩
  rw [emb_o]
  show k1_pay1 (xBlk V c t) (sBlk V c t) (ix2 r q) = tcVal (V c main_v0 (at_ t r q)) (V c main_v3 (ix2 0 q))
  rw [pay_tc]
  congr 1
  · show V c main_v0 (((cfg1.win 0).blk t).view.emb (ix2 r q : S256x2048.Idx)) = _
    rw [emb_x]
  · show V c main_v3 (((cfg1.win 1).blk t).view.emb (ix2 0 q : S1x2048.Idx)) = _
    rw [emb_s]

/-- The output after the run: the first 256 rows as found, the others quantised. -/
theorem out_final (c : Dev nD) (j : S2048x2048.Idx) :
    (dat V c).arrAt 2 cfg1.N j = if (j 0).val < 256 then V c main_v4 j else tcOut (V c main_v0) (V c main_v3) j := by
  rw [(dat V c).arrAt_eq_piecewise 2 (tcOut (V c main_v0) (V c main_v3)) (fun t _ => flushed_o V c t) j]
  by_cases hj : (j 0).val < 256
  · rw [if_pos hj, if_neg]; · rfl
    rintro ⟨t, -, ht⟩
    obtain ⟨y, -, hy⟩ := Finset.mem_map.mp ht
    obtain ⟨r, q, rfl⟩ : ∃ (r : Fin 256) (q : Fin 2048), y = (ix2 r q : S256x2048.Idx) := ⟨y 0, y 1, funext fun a => by fin_cases a <;> rfl⟩
    have := hy.symm.trans (emb_o t r q)
    rw [this] at hj
    have hh : 256 * (t.val + 1) + r.val < 256 := hj
    omega
  · rw [if_neg hj, if_pos]
    obtain ⟨t, r, e⟩ := exists_at j (by omega)
    exact ⟨t, flush1_2 t, Finset.mem_map.mpr ⟨(ix2 r (j 1) : S256x2048.Idx), Finset.mem_univ _, (emb_o t r (j 1)).trans e⟩⟩

/-! ## The call, as the host program runs it -/

variable (a : (p : Fin 1) → (pcfgs (F := F) p).Adm)

/-- The proof data of the one pipeline. -/
def pdats : (p : Fin 1) → (c : Dev nD) → Dat τ (Elt F) (HIx 1) ℕ UU ℕ (Pipeline.pin (pcfgs (F := F)) a p) c
  | ⟨0, _⟩ => fun c => dat V c

/-- The debt a TensorCore carries between calls: none, its recorded waits low. -/
def idle (c : Dev nD) : sProp 𝕄 :=
  iprop(∃ W, ⌜(K (F := F)).WBelow (c.tc : Thread nD τ) W 8⌝ ∗ owes (c.tc : Thread nD τ) (0 : CellTallies nD τ sig (HIx 1)) W)

variable (Vp : (c : Dev nD) → (b : Ref sig .tc) → Buf (Elt F) ((c.tc : Thread nD τ).loc b))

set_option backward.isDefEq.respectTransparency.types false in
/-- The call takes the unscoped buffers from `V` to any `Vp` that differs from it in the output alone, which it leaves at the
    final contents. -/
def reg (hout : ∀ c, Vp c main_v4 = (dat V c).arrAt 2 cfg1.N) (hne : ∀ c (b : Ref sig .tc), b ≠ main_v4 → Vp c b = V c b) :
    Pipeline.RegionSeg (pcfgs (F := F)) a (pdats V a) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ idle (F := F) c)
  post c := iprop(unscopedBufs c (Vp c) ∗ idle (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) a (pdats V a) launch1.win launch1.arr_whole c
      ((pdats V a 0 c).share_full fun _ => rfl) (V c) fun _ => rfl
    iintro ⟨⟨Hb, Hi⟩, -, -⟩
    ihave H := hsplit $$ Hb
    icases H with ⟨Ha, Hr⟩
    imodintro
    isplitl [Ha]; · iexact Ha
    isplitr; · unfold Pipeline.prefHeld; rw [show (Finset.univ : Finset (Fin 0)) = ∅ from rfl, BI.bigSep_empty]; iempintro
    isplitl [Hi]
    · unfold Pipeline.Dat.owesAt Pipeline.owesWithin idle
      icases Hi with ⟨%W, %hW, Hi⟩
      iexists W
      isplitr; · ipureintro; exact fun p hp => Or.inl (hW p hp)
      iexact Hi
    isplitr; · iempintro
    iexact Hr
  hin c := by
    rw [show (pdats V a 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V a 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) a (Ix := HIx 1) (Name := ℕ) (U := UU) (Lvl := ℕ) launch1.win launch1.arr_whole c
      (pdats V a) ((pdats V a 0 c).share_full fun _ => rfl) (V c) (Vp c) ((pdats V a 0 c).arrAt · cfg1.N)
      (fun w => by
        fin_cases w
        · exact ((pdats V a 0 c).arrAt_in 0 rfl _).trans (hne c main_v0 (by decide)).symm
        · exact ((pdats V a 0 c).arrAt_in 1 rfl _).trans (hne c main_v3 (by decide)).symm
        · exact (hout c).symm)
      (fun b hb => hne c b fun h => hb (h ▸ Finset.mem_image.mpr ⟨2, Finset.mem_univ _, rfl⟩))
    iintro ⟨Ha, HO, -, Hr⟩
    imodintro
    isplitl [Ha Hr]
    · iapply hjoin; isplitl [Ha] <;> iassumption
    unfold Pipeline.Dat.owesAt Pipeline.owesWithin idle
    icases HO with ⟨%W, %hW, HO⟩
    iexists W
    isplitr
    · ipureintro
      intro p hp
      rcases hW hp with h | ⟨w, i, rfl⟩
      · exact h
      · exact Nat.zero_le _
    iexact HO

end Cert.Proof.K

end
-- ==== Proof.Launch.lean ====
/-
  The program's run: the host's reshapes, the SparseCore call, the copy, the TensorCore's call and the last reshape, for any
  float values; every run ends with the arguments as they were, every semaphore at zero and the result at one known array.
-/
module

public import proofs.«01_k».proof.Proof.Deal
public import proofs.«01_k».proof.Proof.Region
public import Idealize.ShloMosaic.Lib.SparseCore.Quiescent

@[expose] public section

noncomputable section

namespace Cert.Proof.K

open Cert.KernelIdeal Cert.KernelIdeal.Gen

open Idealize.ShloMosaic
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx
open Idealize.ShloMosaic.Pipeline (pin)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's arrays and operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- The nine arrays of the host program. -/
def S9 : Finset (DevRef τ sig) := {a0', a1', a2', v0', v1', v2', v3', v4', v5'}

abbrev op0 : HloOp τ sig (Elt F) := StableHlo.reshape main_arg0 main_v0 (rfl : (.f32 : EltTy) = .f32) shapeCasts_S1x2048x2048_S2048x2048
abbrev op1 : HloOp τ sig (Elt F) := StableHlo.reshape main_arg1 main_v1 (rfl : (.f32 : EltTy) = .f32) shapeCasts_S1x1x2048_S2048
abbrev op3 : HloOp τ sig (Elt F) := StableHlo.reshape main_arg1 main_v3 (rfl : (.f32 : EltTy) = .f32) shapeCasts_S1x1x2048_S1x2048
abbrev op4 : HloOp τ sig (Elt F) := StableHlo.unary main_v2 main_v4 id
abbrev op5 : HloOp τ sig (Elt F) := StableHlo.reshape main_v4 main_v5 (rfl : (.f32 : EltTy) = .f32) shapeCasts_S2048x2048_S1x2048x2048

theorem hop0 : (op0 (F := F)).bufs ⊆ S9 := show ({a0', v0'} : Finset (DevRef τ sig)) ⊆ S9 by decide
theorem hop1 : (op1 (F := F)).bufs ⊆ S9 := show ({a1', v1'} : Finset (DevRef τ sig)) ⊆ S9 by decide
theorem hop3 : (op3 (F := F)).bufs ⊆ S9 := show ({a1', v3'} : Finset (DevRef τ sig)) ⊆ S9 by decide
theorem hop4 : (op4 (F := F)).bufs ⊆ S9 := show ({v2', v4'} : Finset (DevRef τ sig)) ⊆ S9 by decide
theorem hop5 : (op5 (F := F)).bufs ⊆ S9 := show ({v4', v5'} : Finset (DevRef τ sig)) ⊆ S9 by decide

omit [FloatOps F] in
theorem held_S9 (d : Dev nD) (W : Valuation τ sig (Elt F)) :
    (held (SparseCore.T d) S9 W : sProp 𝕄)
      = iprop(((SparseCore.T d).loc main_arg0 ↦{fullShare} W a0') ∗ ((SparseCore.T d).loc main_arg1 ↦{fullShare} W a1') ∗ ((SparseCore.T d).loc main_arg2 ↦{fullShare} W a2')
          ∗ (xLoc d ↦{fullShare} W v0') ∗ (sLoc d ↦{fullShare} W v1') ∗ (oLoc d ↦{fullShare} W v2')
          ∗ ((SparseCore.T d).loc main_v3 ↦{fullShare} W v3') ∗ ((SparseCore.T d).loc main_v4 ↦{fullShare} W v4') ∗ (SparseCore.T d).loc main_v5 ↦{fullShare} W v5') := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

omit [FloatOps F] in
theorem unscoped_held (d : Dev nD) (W : Valuation τ sig (Elt F)) :
    (unscopedBufs d (fun b : Ref sig .tc => W (Proc.devRef .tc b)) : sProp 𝕄) = held (SparseCore.T d) S9 W := by
  rw [held_S9]
  unfold unscopedBufs
  rw [show (Finset.univ.filter fun b : Ref sig .tc => ¬ b.isScoped) = {main_arg0, main_arg1, main_arg2, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-! ## The arrays' contents along @main -/

def W0 (d : Dev nD) : Valuation τ sig (Elt F) := fun b => m (d, b)
def W1 (d : Dev nD) : Valuation τ sig (Elt F) := (op0 (F := F)).result (W0 m d)
def W2 (d : Dev nD) : Valuation τ sig (Elt F) := (op1 (F := F)).result (W1 m d)

/-- The call's operands. -/
def Xc (d : Dev nD) : Buf (Elt F) (xLoc d) := W2 m d v0'
def Sc (d : Dev nD) : Buf (Elt F) (sLoc d) := W2 m d v1'
def Oc (d : Dev nD) : Buf (Elt F) (oLoc d) := W2 m d v2'

def W3 (d : Dev nD) : Valuation τ sig (Elt F) := Function.update (W2 m d) v2' (scAfter (Xc m) (Sc m) (Oc m) d)
def W4 (d : Dev nD) : Valuation τ sig (Elt F) := (op3 (F := F)).result (W3 m d)
def W5 (d : Dev nD) : Valuation τ sig (Elt F) := (op4 (F := F)).result (W4 m d)

/-- The TensorCore call's arrays at its entry. -/
def Vr (c : Dev nD) (b : Ref sig .tc) : Buf (Elt F) ((c.tc : Thread nD τ).loc b) := W5 m c (Proc.devRef .tc b)

def W6 (d : Dev nD) : Valuation τ sig (Elt F) := Function.update (W5 m d) v4' ((dat (Vr m) d).arrAt 2 cfg1.N)
def W7 (d : Dev nD) : Valuation τ sig (Elt F) := (op5 (F := F)).result (W6 m d)

/-- and at its end. -/
def Vp (c : Dev nD) (b : Ref sig .tc) : Buf (Elt F) ((c.tc : Thread nD τ).loc b) := W6 m c (Proc.devRef .tc b)

theorem Vp_out (c : Dev nD) : Vp m c main_v4 = (dat (Vr m) c).arrAt 2 cfg1.N := by
  show Function.update (W5 m c) v4' ((dat (Vr m) c).arrAt 2 cfg1.N) v4' = _
  rw [Function.update_self]
theorem Vp_ne (c : Dev nD) (b : Ref sig .tc) (hb : b ≠ main_v4) : Vp m c b = Vr m c b :=
  Function.update_of_ne (fun h => hb (Proc.devRef_injective .tc h)) _ _

/-- The contents across the call: only the output changes. -/
theorem held_W3 (d : Dev nD) :
    (held (SparseCore.T d) S9 (W3 m d) : sProp 𝕄)
      = iprop(((SparseCore.T d).loc main_arg0 ↦{fullShare} W2 m d a0') ∗ ((SparseCore.T d).loc main_arg1 ↦{fullShare} W2 m d a1') ∗ ((SparseCore.T d).loc main_arg2 ↦{fullShare} W2 m d a2')
          ∗ (xLoc d ↦{fullShare} Xc m d) ∗ (sLoc d ↦{fullShare} Sc m d) ∗ (oLoc d ↦{fullShare} scAfter (Xc m) (Sc m) (Oc m) d)
          ∗ ((SparseCore.T d).loc main_v3 ↦{fullShare} W2 m d v3') ∗ ((SparseCore.T d).loc main_v4 ↦{fullShare} W2 m d v4') ∗ (SparseCore.T d).loc main_v5 ↦{fullShare} W2 m d v5') := by
  rw [held_S9]
  unfold W3
  rw [Function.update_of_ne (show a0' ≠ v2' by decide), Function.update_of_ne (show a1' ≠ v2' by decide), Function.update_of_ne (show a2' ≠ v2' by decide),
    Function.update_of_ne (show v0' ≠ v2' by decide), Function.update_of_ne (show v1' ≠ v2' by decide), Function.update_self,
    Function.update_of_ne (show v3' ≠ v2' by decide), Function.update_of_ne (show v4' ≠ v2' by decide), Function.update_of_ne (show v5' ≠ v2' by decide)]
  rfl

theorem held_W2 (d : Dev nD) :
    (held (SparseCore.T d) S9 (W2 m d) : sProp 𝕄)
      = iprop(((SparseCore.T d).loc main_arg0 ↦{fullShare} W2 m d a0') ∗ ((SparseCore.T d).loc main_arg1 ↦{fullShare} W2 m d a1') ∗ ((SparseCore.T d).loc main_arg2 ↦{fullShare} W2 m d a2')
          ∗ (xLoc d ↦{fullShare} Xc m d) ∗ (sLoc d ↦{fullShare} Sc m d) ∗ (oLoc d ↦{fullShare} Oc m d)
          ∗ ((SparseCore.T d).loc main_v3 ↦{fullShare} W2 m d v3') ∗ ((SparseCore.T d).loc main_v4 ↦{fullShare} W2 m d v4') ∗ (SparseCore.T d).loc main_v5 ↦{fullShare} W2 m d v5') := held_S9 d _

/-! ## The launch's ghost state -/

/-- No table is prefetched. -/
abbrev adm : (p : Fin 1) → (pcfgs (F := F) p).Adm := fun p => (cfgs p).toPCfg_adm

def u₀ : UU := (initOf (K (F := F)).hsCells (K (F := F)).hsToks,
  (initOf (Pipeline.cells (pin (pcfgs (F := F)) adm) cellOf_inj) (Pipeline.launchToks (pin (pcfgs (F := F)) adm) cellOf_inj), 1))

/-- What each TensorCore is dealt for its pipeline's cells. -/
abbrev G (d : Dev nD) : sProp 𝕄 := iprop(Pipeline.cellsGhost (pin (pcfgs (F := F)) adm) EP 0 d ∗ Pipeline.toksInit (pin (pcfgs (F := F)) adm) EP 0 d)

omit [FloatOps F] in
theorem bigSep_emp' {I : Type} (s : Finset I) : (bigSep s fun _ => iprop(emp)) = (iprop(emp) : sProp 𝕄) := bigSep_emp_const s
omit [FloatOps F] in
theorem bigSep_one (Φ : Fin 1 → Dev nD → sProp 𝕄) : (bigSep Finset.univ fun d : Dev nD => bigSep Finset.univ fun p : Fin 1 => Φ p d) = bigSep Finset.univ fun d : Dev nD => Φ 0 d :=
  bigSep_congr fun d _ => bigSep_univ_of_subsingleton (0 : Fin 1)

omit [FloatOps F] in
theorem own_two (a : UH) (b : UP) : (ownU ((a, (b, (1 : Counters))) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

abbrev Pm : (K (F := F)).Pay (nD := nD) (Val := Elt F) (Name := ℕ) (U := UU) := P (Xc m) (Sc m) (Oc m)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (Pm m).x q thr) := by
  unfold u₀
  iintro Hu
  ihave H := (own_two _ _) $$ Hu
  icases H with ⟨HH, HP⟩
  imod (Pipeline.fund_ghost (pin (pcfgs (F := F)) adm) EP cellOf_inj) $$ HP with ⟨Hg, Ht⟩
  imodintro
  isplitl [HH]; · iexact HH
  isplitl [Hg Ht]
  · rw [bigSep_sep']
    isplitl [Hg]
    · iapply (Entails.of_eq (bigSep_one fun (p : Fin 1) (d : Dev nD) => Pipeline.cellsGhost (pin (pcfgs (F := F)) adm) EP p d)); iexact Hg
    · iapply (Entails.of_eq (bigSep_one fun (p : Fin 1) (d : Dev nD) => Pipeline.toksInit (pin (pcfgs (F := F)) adm) EP p d)); iexact Ht
  rw [show (bigSep Finset.univ fun thr : Thread nD τ => bigSep Finset.univ fun q : Fin 1 => (Pm m).x q thr) = bigSep Finset.univ fun _ => (iprop(emp) : sProp 𝕄) from
    bigSep_congr fun _ _ => bigSep_univ_of_subsingleton (0 : Fin 1), bigSep_emp']
  iempintro

/-! ## @main -/

/-- After its one call a TensorCore's handshake state is its idle debt and what stays as it is. -/
theorem tcSt_one (d : Dev nD) : ∃ R : sProp 𝕄, ((K (F := F)).tcSt EH d 1 : sProp 𝕄) = iprop(idle (F := F) d ∗ R) := by
  unfold SparseCore.Cfg.tcSt idle
  rw [(K (F := F)).Otc_end d (le_refl 1)]
  exact ⟨_, rfl⟩

/-- What @main leaves the claims: the arguments at their launch contents, the result at `W7`'s. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ (SparseCore.T d).loc main_v5 ↦{fullShare} W7 m d v5')

theorem W7_arg0 (d : Dev nD) : W7 m d a0' = m ((SparseCore.T d).loc main_arg0) := by
  unfold W7 W6 W5 W4 W3 W2 W1
  rw [(op5 (F := F)).result_of_not_mem _ (show a0' ∉ ({v5'} : Finset (DevRef τ sig)) by decide), Function.update_of_ne (show a0' ≠ v4' by decide),
    (op4 (F := F)).result_of_not_mem _ (show a0' ∉ ({v4'} : Finset (DevRef τ sig)) by decide),
    (op3 (F := F)).result_of_not_mem _ (show a0' ∉ ({v3'} : Finset (DevRef τ sig)) by decide), Function.update_of_ne (show a0' ≠ v2' by decide),
    (op1 (F := F)).result_of_not_mem _ (show a0' ∉ ({v1'} : Finset (DevRef τ sig)) by decide),
    (op0 (F := F)).result_of_not_mem _ (show a0' ∉ ({v0'} : Finset (DevRef τ sig)) by decide)]
  rfl
theorem W3_arg1 (d : Dev nD) : W3 m d a1' = m ((SparseCore.T d).loc main_arg1) := by
  unfold W3 W2 W1
  rw [Function.update_of_ne (show a1' ≠ v2' by decide),
    (op1 (F := F)).result_of_not_mem _ (show a1' ∉ ({v1'} : Finset (DevRef τ sig)) by decide),
    (op0 (F := F)).result_of_not_mem _ (show a1' ∉ ({v0'} : Finset (DevRef τ sig)) by decide)]
  rfl
theorem W7_arg1 (d : Dev nD) : W7 m d a1' = m ((SparseCore.T d).loc main_arg1) := by
  unfold W7 W6 W5 W4
  rw [(op5 (F := F)).result_of_not_mem _ (show a1' ∉ ({v5'} : Finset (DevRef τ sig)) by decide), Function.update_of_ne (show a1' ≠ v4' by decide),
    (op4 (F := F)).result_of_not_mem _ (show a1' ∉ ({v4'} : Finset (DevRef τ sig)) by decide),
    (op3 (F := F)).result_of_not_mem _ (show a1' ∉ ({v3'} : Finset (DevRef τ sig)) by decide)]
  exact W3_arg1 m d
theorem W7_arg2 (d : Dev nD) : W7 m d a2' = m ((SparseCore.T d).loc main_arg2) := by
  unfold W7 W6 W5 W4 W3 W2 W1
  rw [(op5 (F := F)).result_of_not_mem _ (show a2' ∉ ({v5'} : Finset (DevRef τ sig)) by decide), Function.update_of_ne (show a2' ≠ v4' by decide),
    (op4 (F := F)).result_of_not_mem _ (show a2' ∉ ({v4'} : Finset (DevRef τ sig)) by decide),
    (op3 (F := F)).result_of_not_mem _ (show a2' ∉ ({v3'} : Finset (DevRef τ sig)) by decide), Function.update_of_ne (show a2' ≠ v2' by decide),
    (op1 (F := F)).result_of_not_mem _ (show a2' ∉ ({v1'} : Finset (DevRef τ sig)) by decide),
    (op0 (F := F)).result_of_not_mem _ (show a2' ∉ ({v0'} : Finset (DevRef τ sig)) by decide)]
  rfl

theorem held_W7 (d : Dev nD) :
    (held (SparseCore.T d) S9 (W7 m d) : sProp 𝕄)
      = iprop(((SparseCore.T d).loc main_arg0 ↦{fullShare} m ((SparseCore.T d).loc main_arg0)) ∗ ((SparseCore.T d).loc main_arg1 ↦{fullShare} m ((SparseCore.T d).loc main_arg1))
          ∗ ((SparseCore.T d).loc main_arg2 ↦{fullShare} m ((SparseCore.T d).loc main_arg2))
          ∗ (xLoc d ↦{fullShare} W7 m d v0') ∗ (sLoc d ↦{fullShare} W7 m d v1') ∗ (oLoc d ↦{fullShare} W7 m d v2')
          ∗ ((SparseCore.T d).loc main_v3 ↦{fullShare} W7 m d v3') ∗ ((SparseCore.T d).loc main_v4 ↦{fullShare} W7 m d v4') ∗ (SparseCore.T d).loc main_v5 ↦{fullShare} W7 m d v5') := by
  rw [held_S9, W7_arg0, W7_arg1, W7_arg2]

/-- The call's segment, at the arrays' contents here. -/
abbrev regm := reg (Vr m) adm (Vp m) (Vp_out m) (Vp_ne m)
theorem reg_pre (d : Dev nD) : ((regm m).pre d : sProp 𝕄) = iprop(held (SparseCore.T d) S9 (W5 m d) ∗ idle (F := F) d) := by
  rw [← unscoped_held d (W5 m d)]; rfl
theorem reg_post (d : Dev nD) : ((regm m).post d : sProp 𝕄) = iprop(held (SparseCore.T d) S9 (W6 m d) ∗ idle (F := F) d) := by
  rw [← unscoped_held d (W6 m d)]; rfl

/-- The TensorCore's call inside the pipeline's own program. -/
theorem region_inner [∀ e, Nonempty (Elt F e)] (d : Dev nD) (Q : PUnit → sProp 𝕄) :
    iprop((iprop(boundary (SparseCore.T d) ∗ held (SparseCore.T d) S9 (W6 m d) ∗ idle (F := F) d) -∗ Q ⟨⟩)
        ∗ levAts (K (F := F)).L (K (F := F)).lev ∗ boundary (SparseCore.T d) ∗ held (SparseCore.T d) S9 (W5 m d) ∗ idle (F := F) d ∗ G d)
      ⊢ wp frame (wpE (D (F := F)) 𝒱 (SparseCore.T d) none) Set.univ (.op (.customCall (Pipeline.entry 0) ()) .ret) Q := by
  iintro ⟨Hk, Hctx, Hb, Hh, Hi, Hg, Ht⟩
  iapply (Pipeline.RegionSeg.wp (pcfgs (F := F)) adm (pdats (Vr m) adm) (none : HIx 1) cellOf_inj EP (defs₀ (F := F)) 𝒱₀ (K (F := F)).L (K (F := F)).lev
    (regm m) d none (by simp) .ret Q) $$ [Hk Hctx Hb Hh Hi Hg Ht]
  isplitl [Hk]
  · iintro ⟨Hb, Hp⟩
    ihave Hp := (Entails.of_eq (reg_post m d)) $$ Hp
    icases Hp with ⟨Hh, Hi⟩
    rw [wp_ret]; imodintro
    iapply Hk
    isplitl [Hb]; · iexact Hb
    isplitl [Hh] <;> iassumption
  isplitl [Hb]; · iexact Hb
  isplitl [Hh Hi]; · rw [reg_pre]; isplitl [Hh] <;> iassumption
  isplitl [Hctx]; · iexact Hctx
  isplitl [Hg] <;> iassumption

/-- The host's call is the pipeline's own, inside the SparseCores' program. -/
theorem entry_eq : (Prog.lift (.customCall (SparseCore.inner (Pipeline.entry 0)) ())
      : Prog (TpuEff nD τ sig (Elt F) (SparseCore.Sig (ΛP (F := F)) 1) .tc) PUnit)
    = SparseCore.liftProg (Q := 1) (.op (.customCall (Pipeline.entry 0) ()) .ret : Prog (TpuEff nD τ sig (Elt F) (ΛP (F := F)) .tc) PUnit) := rfl

/-- The TensorCore's call, from the nine arrays before it to the nine after. -/
theorem region_run [∀ e, Nonempty (Elt F e)] (d : Dev nD) (Q : PUnit → sProp 𝕄) :
    iprop((iprop(boundary (SparseCore.T d) ∗ held (SparseCore.T d) S9 (W6 m d) ∗ idle (F := F) d) -∗ Q ⟨⟩)
        ∗ levAts (K (F := F)).L (K (F := F)).lev ∗ boundary (SparseCore.T d) ∗ held (SparseCore.T d) S9 (W5 m d) ∗ idle (F := F) d ∗ G d)
      ⊢ wp frame (wpE ((K (F := F)).defs (D (F := F))) 𝒱 (SparseCore.T d) none) Set.univ
          (Prog.lift (.customCall (SparseCore.inner (Pipeline.entry 0)) ())) Q := by
  rw [entry_eq]
  exact (region_inner m d Q).trans ((K (F := F)).wp_liftProg (D (F := F)) 𝒱 (SparseCore.T d) Set.univ none _ _)

/-- The SparseCore call, from the nine arrays before it to the nine after. -/
theorem sc_run (κ : GSem nD τ sig → ℕ) (d : Dev nD) (Q : PUnit → sProp 𝕄) :
    iprop((K (F := F)).ctx EH (Pm m) κ ∗ (K (F := F)).tcSt EH d 0 ∗ held (SparseCore.T d) S9 (W2 m d)
        ∗ (iprop((K (F := F)).tcSt EH d 1 ∗ held (SparseCore.T d) S9 (W3 m d)) -∗ Q ⟨⟩))
      ⊢ wp frame (wpE ((K (F := F)).defs (D (F := F))) 𝒱 (SparseCore.T d) none) Set.univ ((K (F := F)).run d 0) Q := by
  rw [held_W2, held_W3, rows_apart (ℓ := xLoc d) rowsOf rows_disjoint, rows_apart (ℓ := oLoc d) rowsOf rows_disjoint (Oc m d), ← out_join, scales_apart]
  iintro ⟨Hctx, Hst, ⟨H0, H1, H2, ⟨Hx, Hx'⟩, ⟨Hs', Hs⟩, ⟨Ho, Ho'⟩, H3, H4, H5⟩, Hk⟩
  iapply ((K (F := F)).wp_run (D (F := F)) 𝒱 (EH := EH) (P := Pm m) κ d 0) $$ [Hctx Hst H0 H1 H2 Hx Hx' Hs Hs' Ho Ho' H3 H4 H5 Hk]
  isplitl [Hctx]; · iexact Hctx
  isplitl [Hst]; · iexact Hst
  isplitl [Hx Hs Ho]
  · rw [st_eq]
    isplitl [Hx]; · iexact Hx
    isplitl [Hs] <;> iassumption
  iintro ⟨Hst, Hdn⟩
  ihave Hdn' := (Entails.of_eq (dn_eq (Xc m) (Sc m) (Oc m) d)) $$ Hdn
  icases Hdn' with ⟨Hx, Hs, Ho⟩
  iapply Hk
  isplitl [Hst]; · iexact Hst
  isplitl [H0]; · iexact H0
  isplitl [H1]; · iexact H1
  isplitl [H2]; · iexact H2
  isplitl [Hx Hx']; · isplitl [Hx] <;> iassumption
  isplitl [Hs Hs']; · isplitl [Hs'] <;> iassumption
  isplitl [Ho Ho']; · isplitl [Ho] <;> iassumption
  isplitl [H3]; · iexact H3
  isplitl [H4] <;> iassumption

theorem step0 (d : Dev nD) : (held (SparseCore.T d) S9 ((op0 (F := F)).result (W0 m d)) : sProp 𝕄) ⊢ held (SparseCore.T d) S9 (W1 m d) := .rfl
theorem step1 (d : Dev nD) : (held (SparseCore.T d) S9 ((op1 (F := F)).result (W1 m d)) : sProp 𝕄) ⊢ held (SparseCore.T d) S9 (W2 m d) := .rfl
theorem step3 (d : Dev nD) : (held (SparseCore.T d) S9 ((op3 (F := F)).result (W3 m d)) : sProp 𝕄) ⊢ held (SparseCore.T d) S9 (W4 m d) := .rfl
theorem step4 (d : Dev nD) : (held (SparseCore.T d) S9 ((op4 (F := F)).result (W4 m d)) : sProp 𝕄) ⊢ held (SparseCore.T d) S9 (W5 m d) := .rfl
theorem step5 (d : Dev nD) : (held (SparseCore.T d) S9 ((op5 (F := F)).result (W6 m d)) : sProp 𝕄) ⊢ held (SparseCore.T d) S9 (W7 m d) := .rfl

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd
  rw [show (unscopedBufs d (fun b => m ((SparseCore.T d).loc b)) : sProp 𝕄) = held (SparseCore.T d) S9 (W0 m d) from unscoped_held d (W0 m d)]
  simp only [main, wp_bind, wp_pure]
  iintro ⟨#Hctx, Hst, ⟨Hb, Hh, Hts, -⟩, HG⟩
  iapply (wp_hlo_within 𝒱 (SparseCore.T d) none Set.univ (op := op0) (S := S9) hop0 (V := W0 m d)) $$ [Hb Hh]
  · isplitl [Hb] <;> iassumption
  iintro ⟨Hb, Hh⟩
  ihave Hh := (step0 m d) $$ Hh
  rw [wp_ret]; imodintro
  iapply (wp_hlo_within 𝒱 (SparseCore.T d) none Set.univ (op := op1) (S := S9) hop1 (V := W1 m d)) $$ [Hb Hh]
  · isplitl [Hb] <;> iassumption
  iintro ⟨Hb, Hh⟩
  ihave Hh := (step1 m d) $$ Hh
  rw [wp_ret]; imodintro
  iapply (sc_run m κ d) $$ [Hst Hh Hb Hts HG]
  isplitr; · iexact Hctx
  isplitl [Hst]; · iexact Hst
  isplitl [Hh]; · iexact Hh
  iintro ⟨Hst, Hh⟩
  iapply (wp_hlo_within 𝒱 (SparseCore.T d) none Set.univ (op := op3) (S := S9) hop3 (V := W3 m d)) $$ [Hb Hh]
  · isplitl [Hb] <;> iassumption
  iintro ⟨Hb, Hh⟩
  ihave Hh := (step3 m d) $$ Hh
  rw [wp_ret]; imodintro
  iapply (wp_hlo_within 𝒱 (SparseCore.T d) none Set.univ (op := op4) (S := S9) hop4 (V := W4 m d)) $$ [Hb Hh]
  · isplitl [Hb] <;> iassumption
  iintro ⟨Hb, Hh⟩
  ihave Hh := (step4 m d) $$ Hh
  rw [wp_ret]; imodintro
  ihave Hst' := (Entails.of_eq hR) $$ Hst
  icases Hst' with ⟨Hi, Hkept⟩
  iapply (region_run m d) $$ [Hb Hh Hi HG Hkept Hts]
  isplitr [Hb Hh Hi HG]
  · iintro ⟨Hb, Hh, Hi⟩
    iapply (wp_hlo_within 𝒱 (SparseCore.T d) none Set.univ (op := op5) (S := S9) hop5 (V := W6 m d)) $$ [Hb Hh]
    · isplitl [Hb] <;> iassumption
    iintro ⟨Hb, Hh⟩
    ihave Hh := (step5 m d) $$ Hh
    ihave Hh' := (Entails.of_eq (held_W7 (F := F) m d)) $$ Hh
    icases Hh' with ⟨H0, H1, H2, -, -, -, -, -, H5⟩
    rw [wp_ret]; imodintro; imodintro
    isplitl [Hi Hkept]
    · rw [hR]; isplitl [Hi] <;> iassumption
    isplitl [H0 H1 H2 H5]
    · isplitl [H0]; · iexact H0
      isplitl [H1]; · iexact H1
      isplitl [H2] <;> iassumption
    isplitl [Hb] <;> iassumption
  isplitr; · iapply ((K (F := F)).ctx_levAts (EH := EH) (P := Pm m) κ); iexact Hctx
  isplitl [Hb]; · iexact Hb
  isplitl [Hh]; · iexact Hh
  isplitl [Hi] <;> iassumption

/-! ## The final memory -/

/-- What the claims read of a final state. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_v5) = W7 m d v5'

set_option maxRecDepth 16384 in
theorem hfin (d : Dev nD) (s' : Phys nD τ sig (Elt F)) : iprop(FIN m d ∗ SI s') ⊢ (⌜fq m d s'⌝ : sProp 𝕄) := by
  iintro ⟨⟨H0, H1, H2, H5⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (SI_pointsTo_agree (st := s') (ℓ := (SparseCore.T d).loc main_v5) (I := Finset.univ) (q := fullShare) (f := W7 m d v5')) $$ [HSI H5]
  · isplitl [HSI] <;> iassumption
  icases H with %h5
  ipureintro
  exact ⟨funext fun i => h0 i (Finset.mem_univ i), funext fun i => h1 i (Finset.mem_univ i), funext fun i => h2 i (Finset.mem_univ i), funext fun i => h5 i (Finset.mem_univ i)⟩

def QC : PUnit × MemSt nD τ sig (Elt F) → Prop := fun r =>
  (∀ c : Dev nD, r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_v5) = W7 m c v5') ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl _ _ _)
    (fun q _ => match q with | 0 => SparseCore.Cfg.VecSplit.of_plain (vecSplit _ _ _))
    m ρ main (fun d => G d) (FIN m) (u₀ (F := F)) (sep_elim_left.trans (hu₀ m)) (hmain m ρ) (fq m) (hfin m) (QC m) (fun _ h hz => ⟨h, hz⟩)

end Cert.Proof.K

end
-- ==== Proof.Result.lean ====
/-
  The result of the program's run, element by element.
-/
module

public import proofs.«01_k».proof.Proof.Launch

@[expose] public section

noncomputable section

namespace Cert.Proof.K

open Cert.KernelIdeal Cert.KernelIdeal.Gen

open Idealize.ShloMosaic
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx
open Idealize.ShloMosaic.Pipeline (pin)

variable {F : FTy → Type} [FloatOps F]

local notation "𝕄" => MT nD τ sig (HIx 1) (Elt F) ℕ UU ℕ

variable (m : (ℓ : Loc nD τ sig) → Buf (Elt F) ℓ)

/-! ## The arrays at each step -/

theorem Xc_eq (d : Dev nD) : Xc m d = shapeCast S2048x2048 (m ((SparseCore.T d).loc main_arg0) : S1x2048x2048.Idx → F .f32) shapeCasts_S1x2048x2048_S2048x2048 := by
  unfold Xc W2 W1
  rw [(op1 (F := F)).result_of_not_mem _ (show v0' ∉ ({v1'} : Finset (DevRef τ sig)) by decide), StableHlo.reshape_result]
  rfl

theorem Sc_eq (d : Dev nD) : Sc m d = shapeCast S2048 (m ((SparseCore.T d).loc main_arg1) : S1x1x2048.Idx → F .f32) shapeCasts_S1x1x2048_S2048 := by
  unfold Sc W2 W1
  rw [StableHlo.reshape_result, (op0 (F := F)).result_of_not_mem _ (show a1' ∉ ({v0'} : Finset (DevRef τ sig)) by decide)]
  rfl

theorem Vr_v0 (d : Dev nD) : Vr m d main_v0 = Xc m d := by
  unfold Vr W5 W4 W3
  rw [(op4 (F := F)).result_of_not_mem _ (show v0' ∉ ({v4'} : Finset (DevRef τ sig)) by decide),
    (op3 (F := F)).result_of_not_mem _ (show v0' ∉ ({v3'} : Finset (DevRef τ sig)) by decide), Function.update_of_ne (show v0' ≠ v2' by decide)]
  rfl

theorem Vr_v3 (d : Dev nD) : Vr m d main_v3 = shapeCast S1x2048 (m ((SparseCore.T d).loc main_arg1) : S1x1x2048.Idx → F .f32) shapeCasts_S1x1x2048_S1x2048 := by
  unfold Vr W5 W4
  rw [(op4 (F := F)).result_of_not_mem _ (show v3' ∉ ({v4'} : Finset (DevRef τ sig)) by decide), StableHlo.reshape_result]
  show shapeCast S1x2048 (W3 m d a1') _ = _
  rw [W3_arg1]

theorem Vr_v4 (d : Dev nD) : Vr m d main_v4 = scAfter (Xc m) (Sc m) (Oc m) d := by
  unfold Vr W5 W4
  rw [StableHlo.unary_result, (op3 (F := F)).result_of_not_mem _ (show v2' ∉ ({v3'} : Finset (DevRef τ sig)) by decide)]
  unfold W3
  rw [Function.update_self]
  rfl

theorem W7_v5 (d : Dev nD) : W7 m d v5' = shapeCast S1x2048x2048 ((dat (Vr m) d).arrAt 2 cfg1.N : S2048x2048.Idx → F .f32) shapeCasts_S2048x2048_S1x2048x2048 := by
  unfold W7 W6
  rw [StableHlo.reshape_result]
  show shapeCast S1x2048x2048 (Function.update (W5 m d) v4' ((dat (Vr m) d).arrAt 2 cfg1.N) v4') _ = _
  rw [Function.update_self]

/-! ## The result -/

/-- The result, element by element: the first 256 rows as the vector subcores compute them, the others as the TensorCore does. -/
theorem W7_out (d : Dev nD) (r q : Fin 2048) :
    (W7 m d v5' : S1x2048x2048.Idx → F .f32) (ix3 0 r q)
      = if r.val < 256 then scVal ((m ((SparseCore.T d).loc main_arg0) : S1x2048x2048.Idx → F .f32) (ix3 0 r q)) (recip ((m ((SparseCore.T d).loc main_arg1) : S1x1x2048.Idx → F .f32) (ix3 0 0 q)))
            ((m ((SparseCore.T d).loc main_arg1) : S1x1x2048.Idx → F .f32) (ix3 0 0 q))
        else tcVal ((m ((SparseCore.T d).loc main_arg0) : S1x2048x2048.Idx → F .f32) (ix3 0 r q)) ((m ((SparseCore.T d).loc main_arg1) : S1x1x2048.Idx → F .f32) (ix3 0 0 q)) := by
  have hX : Xc m d (ix2 r q) = (m ((SparseCore.T d).loc main_arg0) : S1x2048x2048.Idx → F .f32) (ix3 0 r q) := by
    rw [Xc_eq]; exact shapeCast_1ab_ab_apply _ _ r q
  have hS : Sc m d (ix1 q) = (m ((SparseCore.T d).loc main_arg1) : S1x1x2048.Idx → F .f32) (ix3 0 0 q) := by
    rw [Sc_eq]
    exact shapeCast_apply (s := S1x1x2048) (t := S2048) _ _ (ix1 q) (ix3 0 0 q) (by
      rw [Shape.rowMajor_val_three, Shape.rowMajor_val_one]
      show (0 * 1 + 0) * 2048 + q.val = q.val
      omega)
  have hS1 : (Vr m d main_v3 : S1x2048.Idx → F .f32) (ix2 0 q) = (m ((SparseCore.T d).loc main_arg1) : S1x1x2048.Idx → F .f32) (ix3 0 0 q) := by
    rw [Vr_v3]; exact shapeCast_1ab_ab_apply _ _ 0 q
  rw [W7_v5]
  refine (shapeCast_ab_1ab_apply _ _ 0 r q).trans ?_
  rw [out_final, Vr_v4]
  show (if r.val < 256 then scAfter (Xc m) (Sc m) (Oc m) d (ix2 r q) else tcOut (Vr m d main_v0) (Vr m d main_v3) (ix2 r q)) = _
  by_cases h : r.val < 256
  · rw [if_pos h, if_pos h]
    unfold scAfter
    rw [if_pos (show ((ix2 r q : S2048x2048.Idx) 0).val < 256 from h)]
    unfold scOut
    show scVal (Xc m d (ix2 r q)) (recip (Sc m d (ix1 q))) (Sc m d (ix1 q)) = _
    rw [hX, hS]
  · rw [if_neg h, if_neg h]
    unfold tcOut
    show tcVal (Vr m d main_v0 (ix2 r q)) ((Vr m d main_v3 : S1x2048.Idx → F .f32) (ix2 0 q)) = _
    rw [hS1, Vr_v0, hX]

end Cert.Proof.K

end
-- ==== Proof.Scalar.lean ====
/-
  One element, over the extended reals: the code that the kernel's rounding finds is the first of the nearest codes.
-/
module

public import proofs.«01_k».proof.Proof.Base
public import Idealize.ShloMosaic.PureOps.Ideal.Laws

@[expose] public section

noncomputable section

namespace Cert.Proof.V

open Idealize.ShloMosaic
open Cert.Proof.K (mag signed recip scVal tcVal)

/-! ## Rounding to the nearest integer -/

theorem round_strict (n : ℤ) {r : ℝ} (h1 : (n : ℝ) - 1 / 2 < r) (h2 : r < n + 1 / 2) : Ideal.roundHalfEven r = n := by
  unfold Ideal.roundHalfEven
  have f1 := Int.floor_le r
  have f2 := Int.lt_floor_add_one r
  have a1 : n - 1 ≤ ⌊r⌋ := Int.le_floor.2 (by push_cast; linarith)
  have a2 : ⌊r⌋ < n + 1 := Int.floor_lt.2 (by push_cast; linarith)
  have hf : ⌊r⌋ = n ∨ ⌊r⌋ = n - 1 := by omega
  rcases hf with hf | hf <;> simp only [hf]
  · rw [if_pos (by linarith)]
  · push_cast
    rw [if_neg (by linarith), if_pos (by linarith)]; ring

theorem round_even (n : ℤ) (hn : Even n) {r : ℝ} (h1 : (n : ℝ) - 1 / 2 ≤ r) (h2 : r ≤ n + 1 / 2) : Ideal.roundHalfEven r = n := by
  rcases h1.lt_or_eq with h1 | h1
  · rcases h2.lt_or_eq with h2 | h2
    · exact round_strict n h1 h2
    · have hf : ⌊r⌋ = n := by rw [Int.floor_eq_iff]; constructor <;> linarith
      unfold Ideal.roundHalfEven
      simp only [hf]
      rw [if_neg (by linarith), if_neg (by linarith), if_pos hn]
  · have hf : ⌊r⌋ = n - 1 := by rw [Int.floor_eq_iff]; push_cast; constructor <;> linarith
    have ho : ¬ Even (n - 1) := by
      rw [Int.even_sub_one]; simpa using hn
    unfold Ideal.roundHalfEven
    simp only [hf]
    push_cast
    rw [if_neg (by linarith), if_neg (by linarith), if_neg ho]; ring

/-! ## The kernel's magnitude, at a real number -/

/-- `mag` at a real number. -/
def magR (a : ℝ) : ℝ :=
  if a < 5 / 2 then min (Ideal.roundHalfEven (a + a) : ℝ) 4 * (1 / 2)
  else if a < 5 then (Ideal.roundHalfEven (min a 4) : ℝ) else 6

theorem lit_25 : (Scalar.ofBits (F := Ideal) .f32 0x40200000#32 : EReal) = ((5 / 2 : ℝ) : EReal) := by
  show Ideal.ofBits .f32 _ = _
  simp [Ideal.ofBits, Ideal.ieee, -EReal.coe_mul]; norm_num
theorem lit_4 : (Scalar.ofBits (F := Ideal) .f32 0x40800000#32 : EReal) = ((4 : ℝ) : EReal) := by
  show Ideal.ofBits .f32 _ = _
  simp [Ideal.ofBits, Ideal.ieee, -EReal.coe_mul]; norm_num
theorem lit_half : (Scalar.ofBits (F := Ideal) .f32 0x3F000000#32 : EReal) = ((1 / 2 : ℝ) : EReal) := by
  show Ideal.ofBits .f32 _ = _
  simp [Ideal.ofBits, Ideal.ieee, -EReal.coe_mul]; norm_num
theorem lit_5 : (Scalar.ofBits (F := Ideal) .f32 0x40A00000#32 : EReal) = ((5 : ℝ) : EReal) := by
  show Ideal.ofBits .f32 _ = _
  simp [Ideal.ofBits, Ideal.ieee, -EReal.coe_mul]; norm_num
theorem lit_6 : (Scalar.ofBits (F := Ideal) .f32 0x40C00000#32 : EReal) = ((6 : ℝ) : EReal) := by
  show Ideal.ofBits .f32 _ = _
  simp [Ideal.ofBits, Ideal.ieee, -EReal.coe_mul]; norm_num
theorem lit_0 : (Scalar.ofBits (F := Ideal) .f32 0x00000000#32 : EReal) = 0 := by
  show Ideal.ofBits .f32 _ = _
  simp [Ideal.ofBits, Ideal.ieee]
theorem lit_1 : (Scalar.ofBits (F := Ideal) .f32 0x3F800000#32 : EReal) = ((1 : ℝ) : EReal) := by
  show Ideal.ofBits .f32 _ = _
  simp [Ideal.ofBits, Ideal.ieee, -EReal.coe_mul]; norm_num

theorem select_lt {α : Type} (a b : EReal) (u v : α) : Scalar.select (Ideal.cmp .olt a b) u v = if a < b then u else v := by
  by_cases h : a < b <;> simp [Scalar.select, Ideal.cmp, h]

theorem mag_eq (a : EReal) : (mag (F := Ideal) a : EReal)
    = if a < ((5 / 2 : ℝ) : EReal) then min (Ideal.liftRound Ideal.roundHalfEven (a + a)) ((4 : ℝ) : EReal) * ((1 / 2 : ℝ) : EReal)
      else if a < ((5 : ℝ) : EReal) then Ideal.liftRound Ideal.roundHalfEven (min a ((4 : ℝ) : EReal)) else ((6 : ℝ) : EReal) := by
  unfold mag
  rw [Ideal.cmpf_def, Ideal.cmpf_def, select_lt, select_lt, lit_25, lit_4, lit_half, lit_5, lit_6]
  rfl

theorem coe_min (a b : ℝ) : ((min a b : ℝ) : EReal) = min (a : EReal) (b : EReal) := EReal.coe_strictMono.monotone.map_min
theorem coe_max (a b : ℝ) : ((max a b : ℝ) : EReal) = max (a : EReal) (b : EReal) := EReal.coe_strictMono.monotone.map_max

theorem mag_coe (a : ℝ) : (mag (F := Ideal) (a : EReal) : EReal) = ((magR a : ℝ) : EReal) := by
  rw [mag_eq]
  unfold magR
  simp only [EReal.coe_lt_coe_iff, ← EReal.coe_add, ← coe_min]
  have e : ∀ r : ℝ, Ideal.liftRound Ideal.roundHalfEven (r : EReal) = ((Ideal.roundHalfEven r : ℝ) : EReal) := fun _ => rfl
  simp only [e, ← coe_min, ← EReal.coe_mul]
  split_ifs <;> rfl

theorem mag_top : (mag (F := Ideal) (⊤ : EReal) : EReal) = ((6 : ℝ) : EReal) := by
  rw [mag_eq, if_neg (by simp), if_neg (by simp)]

theorem signed_eq (y v : EReal) : (signed (F := Ideal) y v : EReal) = if y < 0 then 0 - v else v := by
  unfold signed
  rw [Ideal.cmpf_def, select_lt, lit_0]
  rfl

theorem recip_eq (s : EReal) : (recip (F := Ideal) s : EReal) = Ideal.div 1 s := by
  unfold recip
  rw [lit_1]
  rfl

theorem scVal_eq (x i s : EReal) : (scVal (F := Ideal) x i s : EReal) = if x < 0 then 0 - (mag (F := Ideal) (max x (-x) * i) : EReal) * s else (mag (F := Ideal) (max x (-x) * i) : EReal) * s :=
  signed_eq _ _
theorem tcVal_eq (x s : EReal) : (tcVal (F := Ideal) x s : EReal)
    = (if x * Ideal.div 1 s < 0 then 0 - (mag (F := Ideal) (max (x * Ideal.div 1 s) (-(x * Ideal.div 1 s))) : EReal) else (mag (F := Ideal) (max (x * Ideal.div 1 s) (-(x * Ideal.div 1 s))) : EReal)) * s := by
  show (signed (F := Ideal) (x * (recip (F := Ideal) s : EReal)) _ : EReal) * s = _
  rw [signed_eq, recip_eq]
  rfl

/-! ## The nearest code -/

/-- The sixteen codes. -/
def code : Fin 16 → ℝ := ![-6, -4, -3, -2, -3 / 2, -1, -1 / 2, 0, 0, 1 / 2, 1, 3 / 2, 2, 3, 4, 6]

theorem le_mid {q a b : ℝ} (hab : a < b) (h : |q - a| ≤ |q - b|) : q ≤ (a + b) / 2 := by
  have h' := sq_le_sq.2 h
  by_contra hc
  push Not at hc
  nlinarith
theorem mid_lt {q a b : ℝ} (hab : a < b) (h : |q - b| < |q - a|) : (a + b) / 2 < q := by
  have h' := sq_lt_sq.2 h
  by_contra hc
  push Not at hc
  nlinarith

theorem magR_low {a : ℝ} (h : a < 5 / 2) (n : ℤ) (hn : Ideal.roundHalfEven (a + a) = n) (h4 : n ≤ 4) : magR a = n * (1 / 2) := by
  unfold magR
  rw [if_pos h, hn, min_eq_left (by exact_mod_cast h4)]
theorem magR_mid {a : ℝ} (h : ¬ a < 5 / 2) (h5 : a < 5) (n : ℤ) (hn : Ideal.roundHalfEven (min a 4) = n) : magR a = n := by
  unfold magR
  rw [if_neg h, if_pos h5, hn]
theorem magR_high {a : ℝ} (h5 : ¬ a < 5) : magR a = 6 := by
  unfold magR
  rw [if_neg (by intro; linarith), if_neg h5]

theorem magR_0 {a : ℝ} (h0 : 0 ≤ a) (h : a ≤ 1 / 4) : magR a = 0 := by
  rw [magR_low (by linarith) 0 (round_even 0 (by decide) (by push_cast; linarith) (by push_cast; linarith)) (by norm_num)]; norm_num
theorem magR_half {a : ℝ} (h0 : 1 / 4 < a) (h : a < 3 / 4) : magR a = 1 / 2 := by
  rw [magR_low (by linarith) 1 (round_strict 1 (by push_cast; linarith) (by push_cast; linarith)) (by norm_num)]; norm_num
theorem magR_1 {a : ℝ} (h0 : 3 / 4 ≤ a) (h : a ≤ 5 / 4) : magR a = 1 := by
  rw [magR_low (by linarith) 2 (round_even 2 (by decide) (by push_cast; linarith) (by push_cast; linarith)) (by norm_num)]; norm_num
theorem magR_32 {a : ℝ} (h0 : 5 / 4 < a) (h : a < 7 / 4) : magR a = 3 / 2 := by
  rw [magR_low (by linarith) 3 (round_strict 3 (by push_cast; linarith) (by push_cast; linarith)) (by norm_num)]; norm_num
theorem magR_2 {a : ℝ} (h0 : 7 / 4 ≤ a) (h : a ≤ 5 / 2) : magR a = 2 := by
  rcases h.lt_or_eq with h | h
  · by_cases h9 : a ≤ 9 / 4
    · rw [magR_low h 4 (round_even 4 (by decide) (by push_cast; linarith) (by push_cast; linarith)) (by norm_num)]; norm_num
    · push Not at h9
      unfold magR
      rw [if_pos h, round_strict 5 (by push_cast; linarith) (by push_cast; linarith), min_eq_right (by norm_num)]; norm_num
  · rw [magR_mid (by linarith) (by linarith) 2 (round_even 2 (by decide) (by rw [min_eq_left (by linarith)]; push_cast; linarith) (by rw [min_eq_left (by linarith)]; push_cast; linarith))]
    norm_num
theorem magR_3 {a : ℝ} (h0 : 5 / 2 < a) (h : a < 7 / 2) : magR a = 3 := by
  rw [magR_mid (by linarith) (by linarith) 3 (round_strict 3 (by rw [min_eq_left (by linarith)]; push_cast; linarith) (by rw [min_eq_left (by linarith)]; push_cast; linarith))]
  norm_num
theorem magR_4 {a : ℝ} (h0 : 7 / 2 ≤ a) (h : a < 5) : magR a = 4 := by
  rw [magR_mid (by linarith) h 4 (round_even 4 (by decide) (by push_cast; exact le_min (by linarith) (by norm_num)) (by push_cast; exact (min_le_right _ _).trans (by norm_num)))]
  norm_num

/-- `v` with the sign of `q`. -/
def signR (q v : ℝ) : ℝ := if q < 0 then -v else v

theorem signR_neg {q v : ℝ} (h : q < 0) : signR q (magR |q|) = v ↔ -magR (-q) = v := by
  unfold signR; rw [if_pos h, abs_of_neg h]
theorem signR_pos {q v : ℝ} (h : 0 ≤ q) : signR q (magR |q|) = v ↔ magR q = v := by
  unfold signR; rw [if_neg (by linarith), abs_of_nonneg h]

/-- The midpoints at which the first of two nearest codes is not the even one. -/
structure NoTie (q : ℝ) : Prop where
  a : q ≠ 3 / 4
  b : q ≠ 7 / 4
  c : q ≠ 7 / 2
  d : q ≠ 5
  e : q ≠ -1 / 4
  f : q ≠ -5 / 4
  g : q ≠ -5 / 2

/-- The first of the nearest codes is what the rounding finds. -/
theorem nearest (q : ℝ) (hq : NoTie q) (k : Fin 16) (hmin : ∀ j, |q - code k| ≤ |q - code j|)
    (hfst : ∀ j, j < k → |q - code k| < |q - code j|) : signR q (magR |q|) = code k := by
  obtain ⟨ha, hb, hc, hd, he, hf, hg⟩ := hq
  match k, hmin, hfst with
  | 0, hmin, hfst =>
    have h1 := le_mid (a := -6) (b := -4) (by norm_num) (hmin 1)
    refine (signR_neg (by linarith)).2 ?_
    rw [magR_high (by linarith)]; rfl
  | 1, hmin, hfst =>
    have h1 := le_mid (a := -4) (b := -3) (by norm_num) (hmin 2)
    have h0 := mid_lt (a := -6) (b := -4) (by norm_num) (hfst 0 (by decide))
    refine (signR_neg (by linarith)).2 ?_
    rw [magR_4 (by linarith) (by linarith)]; rfl
  | 2, hmin, hfst =>
    have h1 := (le_mid (a := -3) (b := -2) (by norm_num) (hmin 3)).lt_of_ne (by norm_num; norm_num at hg; exact hg)
    have h0 := mid_lt (a := -4) (b := -3) (by norm_num) (hfst 1 (by decide))
    refine (signR_neg (by linarith)).2 ?_
    rw [magR_3 (by linarith) (by linarith)]; rfl
  | 3, hmin, hfst =>
    have h1 := le_mid (a := -2) (b := -3 / 2) (by norm_num) (hmin 4)
    have h0 := mid_lt (a := -3) (b := -2) (by norm_num) (hfst 2 (by decide))
    refine (signR_neg (by linarith)).2 ?_
    rw [magR_2 (by linarith) (by linarith)]; rfl
  | 4, hmin, hfst =>
    have h1 := (le_mid (a := -3 / 2) (b := -1) (by norm_num) (hmin 5)).lt_of_ne (by norm_num; norm_num at hf; exact hf)
    have h0 := mid_lt (a := -2) (b := -3 / 2) (by norm_num) (hfst 3 (by decide))
    refine (signR_neg (by linarith)).2 ?_
    rw [magR_32 (by linarith) (by linarith)]
    show -(3 / 2 : ℝ) = -3 / 2
    norm_num
  | 5, hmin, hfst =>
    have h1 := le_mid (a := -1) (b := -1 / 2) (by norm_num) (hmin 6)
    have h0 := mid_lt (a := -3 / 2) (b := -1) (by norm_num) (hfst 4 (by decide))
    refine (signR_neg (by linarith)).2 ?_
    rw [magR_1 (by linarith) (by linarith)]; rfl
  | 6, hmin, hfst =>
    have h1 := (le_mid (a := -1 / 2) (b := 0) (by norm_num) (hmin 7)).lt_of_ne (by norm_num; norm_num at he; exact he)
    have h0 := mid_lt (a := -1) (b := -1 / 2) (by norm_num) (hfst 5 (by decide))
    refine (signR_neg (by linarith)).2 ?_
    rw [magR_half (by linarith) (by linarith)]
    show -(1 / 2 : ℝ) = -1 / 2
    norm_num
  | 7, hmin, hfst =>
    have h1 := le_mid (a := 0) (b := 1 / 2) (by norm_num) (hmin 9)
    have h0 := mid_lt (a := -1 / 2) (b := 0) (by norm_num) (hfst 6 (by decide))
    have hm : magR |q| = 0 := magR_0 (abs_nonneg q) (abs_le.2 ⟨by linarith, by linarith⟩)
    show signR q (magR |q|) = (0 : ℝ)
    unfold signR
    rw [hm]; simp
  | 8, hmin, hfst => exact absurd (hfst 7 (by decide)) (lt_irrefl _)
  | 9, hmin, hfst =>
    have h1 := (le_mid (a := 1 / 2) (b := 1) (by norm_num) (hmin 10)).lt_of_ne (by norm_num; norm_num at ha; exact ha)
    have h0 := mid_lt (a := 0) (b := 1 / 2) (by norm_num) (hfst 8 (by decide))
    refine (signR_pos (by linarith)).2 ?_
    rw [magR_half (by linarith) (by linarith)]; rfl
  | 10, hmin, hfst =>
    have h1 := le_mid (a := 1) (b := 3 / 2) (by norm_num) (hmin 11)
    have h0 := mid_lt (a := 1 / 2) (b := 1) (by norm_num) (hfst 9 (by decide))
    refine (signR_pos (by linarith)).2 ?_
    rw [magR_1 (by linarith) (by linarith)]; rfl
  | 11, hmin, hfst =>
    have h1 := (le_mid (a := 3 / 2) (b := 2) (by norm_num) (hmin 12)).lt_of_ne (by norm_num; norm_num at hb; exact hb)
    have h0 := mid_lt (a := 1) (b := 3 / 2) (by norm_num) (hfst 10 (by decide))
    refine (signR_pos (by linarith)).2 ?_
    rw [magR_32 (by linarith) (by linarith)]; rfl
  | 12, hmin, hfst =>
    have h1 := le_mid (a := 2) (b := 3) (by norm_num) (hmin 13)
    have h0 := mid_lt (a := 3 / 2) (b := 2) (by norm_num) (hfst 11 (by decide))
    refine (signR_pos (by linarith)).2 ?_
    rw [magR_2 (by linarith) (by linarith)]; rfl
  | 13, hmin, hfst =>
    have h1 := (le_mid (a := 3) (b := 4) (by norm_num) (hmin 14)).lt_of_ne (by norm_num; norm_num at hc; exact hc)
    have h0 := mid_lt (a := 2) (b := 3) (by norm_num) (hfst 12 (by decide))
    refine (signR_pos (by linarith)).2 ?_
    rw [magR_3 (by linarith) (by linarith)]; rfl
  | 14, hmin, hfst =>
    have h1 := (le_mid (a := 4) (b := 6) (by norm_num) (hmin 15)).lt_of_ne (by norm_num; norm_num at hd; exact hd)
    have h0 := mid_lt (a := 3) (b := 4) (by norm_num) (hfst 13 (by decide))
    refine (signR_pos (by linarith)).2 ?_
    rw [magR_4 (by linarith) (by linarith)]; rfl
  | 15, hmin, hfst =>
    have h0 := mid_lt (a := 4) (b := 6) (by norm_num) (hfst 14 (by decide))
    refine (signR_pos (by linarith)).2 ?_
    rw [magR_high (by linarith)]; rfl
  | ⟨n + 16, h⟩, _, _ => exact absurd h (by omega)

/-! ## One element -/

/-- The distance of a quotient from a code. -/
def far (q : EReal) (j : Fin 16) : EReal := max (q - (code j : EReal)) (-(q - (code j : EReal)))

theorem far_coe (q : ℝ) (j : Fin 16) : far (q : EReal) j = ((|q - code j| : ℝ) : EReal) := by
  unfold far
  rw [← EReal.coe_sub, ← EReal.coe_neg, ← coe_max]; rfl

theorem far_bot (j : Fin 16) : far ⊥ j = ⊤ := by
  unfold far
  rw [EReal.bot_sub, EReal.neg_bot, max_eq_right bot_le]

/-- The first of the codes nearest to `q`. -/
structure First (q : EReal) (k : Fin 16) : Prop where
  le : ∀ j, far q k ≤ far q j
  lt : ∀ j, j < k → far q k < far q j

theorem first_real {q : ℝ} (hq : NoTie q) {k : Fin 16} (h : First (q : EReal) k) : signR q (magR |q|) = code k := by
  refine nearest q hq k (fun j => ?_) fun j hj => ?_
  · have := h.le j
    rw [far_coe, far_coe] at this
    exact EReal.coe_le_coe_iff.1 this
  · have := h.lt j hj
    rw [far_coe, far_coe] at this
    exact EReal.coe_lt_coe_iff.1 this

theorem first_bot {k : Fin 16} (h : First ⊥ k) : k = 0 := by
  by_contra hk
  have := h.lt 0 (Fin.pos_iff_ne_zero.2 hk)
  rw [far_bot, far_bot] at this
  exact lt_irrefl _ this

/-- No quotient is at one of the seven midpoints. -/
def NoTieE (q : EReal) : Prop := ∀ r : ℝ, q = (r : EReal) → NoTie r

theorem noTie_zero : NoTie 0 := by constructor <;> norm_num

theorem magR_zero : magR 0 = 0 := magR_0 le_rfl (by norm_num)

theorem div_pos_real (x : EReal) {r : ℝ} (hr : 0 < r) : Ideal.div x (r : EReal) = x * ((r⁻¹ : ℝ) : EReal) := by
  unfold Ideal.div
  rw [if_neg (by exact_mod_cast hr.ne'), EReal.coe_inv]

theorem div_top (x : EReal) : Ideal.div x ⊤ = 0 := by
  unfold Ideal.div
  rw [if_neg (by simp), EReal.inv_top, mul_zero]

/-- One element: both of the kernel's computations give the first nearest code times the scale. -/
theorem value (x s : EReal) (hs : 0 ≤ s) (hx : x < ⊤) (ht : NoTieE (Ideal.div x s)) (k : Fin 16) (hk : First (Ideal.div x s) k) :
    (scVal (F := Ideal) x (recip (F := Ideal) s) s : EReal) = (code k : EReal) * s ∧ (tcVal (F := Ideal) x s : EReal) = (code k : EReal) * s := by
  rw [scVal_eq, tcVal_eq, recip_eq]
  induction s using EReal.rec with
  | bot => exact absurd hs (by simp)
  | top =>
    rw [div_top] at hk
    have hc := first_real noTie_zero (q := 0) (by exact_mod_cast hk)
    have h0 : code k = 0 := by rw [← hc, abs_zero, magR_zero]; simp [signR]
    have hm : (mag (F := Ideal) (0 : EReal) : EReal) = 0 := by
      have := mag_coe 0
      rw [magR_zero] at this; exact_mod_cast this
    rw [div_top, mul_zero, mul_zero, h0, hm]
    simp [hm]
  | coe r =>
    have hr : 0 ≤ r := by exact_mod_cast hs
    rcases hr.eq_or_lt with rfl | hr
    · rw [EReal.coe_zero]
      simp
    · rw [div_pos_real _ hr] at hk ht ⊢
      rw [one_mul]
      have hi : 0 < r⁻¹ := inv_pos.2 hr
      have hr' : (0 : EReal) < (r : EReal) := by exact_mod_cast hr
      have hi' : (0 : EReal) < ((r⁻¹ : ℝ) : EReal) := by exact_mod_cast hi
      induction x using EReal.rec with
      | top => exact absurd hx (lt_irrefl _)
      | bot =>
        rw [EReal.bot_mul_of_pos hi'] at hk ⊢
        rw [first_bot hk, if_pos (by simp), EReal.neg_bot, max_eq_right bot_le, EReal.top_mul_of_pos hi', mag_top]
        have e : code 0 = -6 := rfl
        have e0 : (0 : EReal) = ((0 : ℝ) : EReal) := rfl
        have hb : (⊥ : EReal) < ((0 : ℝ) : EReal) := EReal.bot_lt_coe 0
        rw [e, e0, if_pos hb, ← EReal.coe_mul, ← EReal.coe_sub, ← EReal.coe_sub, ← EReal.coe_mul, ← EReal.coe_mul]
        constructor <;> congr 1 <;> ring
      | coe x =>
        rw [← EReal.coe_mul] at hk ht
        have hc := first_real (ht _ rfl) hk
        simp only [← EReal.coe_mul, ← EReal.coe_neg, ← coe_max, mag_coe]
        have e1 : max x (-x) * r⁻¹ = |x * r⁻¹| := by rw [abs_mul, abs_of_pos hi]; rfl
        have e2 : max (x * r⁻¹) (-(x * r⁻¹)) = |x * r⁻¹| := rfl
        rw [e1, e2, ← hc]
        have e3 : x < 0 ↔ x * r⁻¹ < 0 := ⟨fun h => mul_neg_of_neg_of_pos h hi, fun h => by by_contra hc; push Not at hc; have := mul_nonneg hc hi.le; linarith⟩
        have e4 : ((x : EReal) < 0) ↔ x < 0 := by exact_mod_cast Iff.rfl
        have e5 : (((x * r⁻¹ : ℝ) : EReal) < 0) ↔ x * r⁻¹ < 0 := by exact_mod_cast Iff.rfl
        rw [if_congr e4 rfl rfl, if_congr e5 rfl rfl, if_congr e3 rfl rfl]
        unfold signR
        have e0 : (0 : EReal) = ((0 : ℝ) : EReal) := rfl
        by_cases h : x * r⁻¹ < 0
        · rw [if_pos h, if_pos h, if_pos h, e0, ← EReal.coe_sub, ← EReal.coe_sub, ← EReal.coe_mul]
          constructor <;> congr 1 <;> ring
        · rw [if_neg h, if_neg h, if_neg h]
          exact ⟨rfl, (EReal.coe_mul _ _).symm⟩

end Cert.Proof.V

end
-- ==== Proof.RefValue.lean ====
/-
  The reference's result, element by element, over the extended reals: the first nearest code times the scale.
-/
module

public import proofs.«01_k».proof.Proof.RefRun
public import proofs.«01_k».proof.Proof.Scalar
public import Idealize.ShloMosaic.Lib.ReduceAll
public import Idealize.ShloMosaic.Lib.StableHlo.Predicate
public import Idealize.ShloMosaic.Lib.Pipeline.Value

@[expose] public section

noncomputable section

namespace Cert.Proof.R

open Cert.ReferenceIdeal Cert.ReferenceIdeal.Gen
open Idealize.ShloMosaic Idealize.ShloMosaic.ValueIdx
open Cert.Proof.V (code far First)

/-! ## The smallest of a list of pairs, and of equal ones the one of the smallest place -/

/-- A pair comes no later than another: a smaller value, or the same value at no larger a place. -/
def Before (p q : EReal × BitVec 32) : Prop := p.1 < q.1 ∨ (p.1 = q.1 ∧ p.2.toInt ≤ q.2.toInt)

theorem before_refl (p : EReal × BitVec 32) : Before p p := .inr ⟨rfl, le_rfl⟩

theorem before_trans {p q r : EReal × BitVec 32} (h : Before p q) (h' : Before q r) : Before p r := by
  rcases h with h | ⟨h, k⟩
  · rcases h' with h' | ⟨h', _⟩
    · exact .inl (h.trans h')
    · exact .inl (h' ▸ h)
  · rcases h' with h' | ⟨h', k'⟩
    · exact .inl (h ▸ h')
    · exact .inr ⟨h.trans h', k.trans k'⟩

/-- One step keeps one of the two pairs, which comes no later than either. -/
theorem step (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨x, i⟩ := a
  obtain ⟨y, j⟩ := b
  have e : reducer_argmin_f32_i32 (F := Ideal) (x, i) (y, j)
      = (if x < y then x else y, if x < y ∨ (x = y ∧ i.toInt < j.toInt) then i else j) := by
    unfold reducer_argmin_f32_i32
    simp only [Ideal.cmpf_def]
    by_cases h : x < y
    · simp [Ideal.cmp, Scalar.select, IntOp.ori, IntOp.andi, IntOp.cmpi, h, h.ne]
    · by_cases h' : x = y
      · by_cases h'' : i.toInt < j.toInt
        · simp [Ideal.cmp, Scalar.select, IntOp.ori, IntOp.andi, IntOp.cmpi, BitVec.slt, h', h'']
        · simp [Ideal.cmp, Scalar.select, IntOp.ori, IntOp.andi, IntOp.cmpi, BitVec.slt, h', h'']
      · simp [Ideal.cmp, Scalar.select, IntOp.ori, IntOp.andi, IntOp.cmpi, BitVec.slt, h, h']
  rw [e]
  by_cases h : x < y
  · rw [if_pos h, if_pos (.inl h)]
    exact ⟨.inl rfl, before_refl _, .inl h⟩
  · rw [if_neg h]
    by_cases h' : x = y ∧ i.toInt < j.toInt
    · rw [if_pos (.inr h')]
      obtain ⟨rfl, h''⟩ := h'
      exact ⟨.inl rfl, before_refl _, .inr ⟨rfl, h''.le⟩⟩
    · rw [if_neg (by rintro (c | c); exacts [h c, h' c])]
      refine ⟨.inr rfl, ?_, before_refl _⟩
      rcases (not_lt.1 h).lt_or_eq with c | c
      · exact .inl c
      · refine .inr ⟨c, ?_⟩
        by_contra hc
        exact h' ⟨c.symm, not_le.1 hc⟩

theorem foldl_step : ∀ (l : List (EReal × BitVec 32)) (a : EReal × BitVec 32),
    (l.foldl (reducer_argmin_f32_i32 (F := Ideal)) a = a ∨ l.foldl (reducer_argmin_f32_i32 (F := Ideal)) a ∈ l)
      ∧ Before (l.foldl (reducer_argmin_f32_i32 (F := Ideal)) a) a
      ∧ ∀ p ∈ l, Before (l.foldl (reducer_argmin_f32_i32 (F := Ideal)) a) p
  | [], a => ⟨.inl rfl, before_refl a, fun _ hp => nomatch hp⟩
  | b :: l, a => by
    obtain ⟨h1, h2, h3⟩ := foldl_step l (reducer_argmin_f32_i32 (F := Ideal) a b)
    obtain ⟨s1, s2, s3⟩ := step a b
    rw [List.foldl_cons]
    refine ⟨?_, before_trans h2 s2, fun p hp => ?_⟩
    · rcases h1 with h1 | h1
      · rcases s1 with s1 | s1
        · exact .inl (h1.trans s1)
        · exact .inr (List.mem_cons.2 (.inl (h1.trans s1)))
      · exact .inr (List.mem_cons_of_mem _ h1)
    · rcases List.mem_cons.1 hp with rfl | hp
      · exact before_trans h2 s3
      · exact h3 p hp

/-! ## The place of the smallest distance -/

theorem mem_fiber {s t : Shape} {axes : List (Fin s.rank)} (x : s.Idx → EReal) (y : s.Idx → BitVec 32) (h : s.ReducesTo axes t) (j : t.Idx)
    (p : EReal × BitVec 32) : p ∈ Host.argReduceFiber x y h j ↔ ∃ i, h.drop i = j ∧ p = (x i, y i) := by
  unfold Host.argReduceFiber
  rw [List.mem_map]
  constructor
  · rintro ⟨n, hn, rfl⟩
    exact ⟨_, of_decide_eq_true (List.mem_filter.1 hn).2, rfl⟩
  · rintro ⟨i, hi, rfl⟩
    refine ⟨s.rowMajor i, List.mem_filter.2 ⟨List.mem_finRange _, ?_⟩, ?_⟩
    · rw [Equiv.symm_apply_apply]
      exact decide_eq_true hi
    · rw [Equiv.symm_apply_apply]

/-- The place found belongs to a pair that comes no later than any of the pairs it is found among, and is one of them or the first of all. -/
theorem argmin_fiber {s t u : Shape} {axes : List (Fin s.rank)} (x : FVec Ideal s .f32) (y : IVec s 32) (ix : FVec Ideal u .f32) (iy : IVec u 32)
    (h : s.ReducesTo axes t) (hu : 0 < u.numel) (n : IVec t 32)
    (hn : n = fun j => (Host.argReduce (reducer_argmin_f32_i32 (F := Ideal)) x y ix iy h hu j).2)
    (hx : (ix (Shape.Idx.first hu) : EReal) = ⊤) (hy : iy (Shape.Idx.first hu) = 0#32) (j : t.Idx) :
    ∃ w : EReal × BitVec 32, n j = w.2
      ∧ (w = (⊤, 0#32) ∨ ∃ i, h.drop i = j ∧ w = (x i, y i)) ∧ ∀ i, h.drop i = j → Before w (x i, y i) := by
  subst hn
  refine ⟨_, rfl, ?_⟩
  rw [Ideal.argReduce_eq_reduce2, Host.reduce2_eq_foldl_fiber, hx, hy]
  obtain ⟨h1, _, h3⟩ := foldl_step (Host.argReduceFiber x y h j) (⊤, 0#32)
  exact ⟨h1.imp id fun h1 => (mem_fiber x y h j _).1 h1, fun i hi => h3 _ ((mem_fiber x y h j _).2 ⟨i, hi, rfl⟩)⟩

theorem drop_row (n : S4194304x16.Idx) (j : S4194304.Idx) :
    reducesTo_S4194304x16_S4194304_d1.drop n = j ↔ (n 0).val = (j 0).val := by
  have hv : (reducesTo_S4194304x16_S4194304_d1.drop n 0 : Nat) = n 0 := Shape.ReducesTo.drop_apply_val _ _ _
  constructor
  · intro e; rw [← hv, e]
  · intro e; funext b
    have hb : b = 0 := Subsingleton.elim _ _
    subst hb
    exact Fin.ext (hv.trans e)

theorem lit_inf : (constant (F := Ideal) S_ .f32 0x7F800000#32 (Shape.Idx.first h_S_) : EReal) = ⊤ := by
  unfold constant
  show (Ideal.ofBits .f32 0x7F800000#32 : EReal) = ⊤
  simp [Ideal.ofBits, Ideal.ieee]

/-- The index found in a row is a place `k` at which the row is smallest, and smaller than at any earlier place. -/
theorem nearest_row (a : FVec Ideal S4194304x16 .f32) (r : Fin 4194304) : ∃ k : Fin 16, nearest a (ix1 r) = BitVec.ofNat 32 k.val
    ∧ (∀ j : Fin 16, (a (ix2 r k) : EReal) ≤ a (ix2 r j)) ∧ ∀ j : Fin 16, j < k → (a (ix2 r k) : EReal) < a (ix2 r j) := by
  obtain ⟨w, en, h1, h3⟩ := argmin_fiber a _ _ _ _ _ (nearest a) rfl lit_inf rfl (ix1 r)
  have hin : ∀ k : Fin 16, Before w ((a (ix2 r k) : EReal), BitVec.ofNat 32 k.val) := fun k => h3 (ix2 r k) ((drop_row _ _).2 rfl)
  rw [en]
  have hk : ∃ k : Fin 16, w = ((a (ix2 r k) : EReal), BitVec.ofNat 32 k.val) := by
    rcases h1 with h1 | h1
    · refine ⟨0, ?_⟩
      have := hin 0
      rw [h1] at this ⊢
      rcases this with h | ⟨h, _⟩
      · exact absurd h (by simp)
      · exact Prod.ext h rfl
    · obtain ⟨i, hi, e⟩ := h1
      rw [drop_row] at hi
      have ei : i = ix2 r (i 1) := by
        rw [eq_ix2 i]
        exact congrArg (fun z => ix2 z (i 1)) (Fin.ext hi)
      exact ⟨i 1, e.trans (Prod.ext (congrArg a ei) rfl)⟩
  obtain ⟨k, rfl⟩ := hk
  refine ⟨k, rfl, fun j => ?_, fun j hj => ?_⟩
  · rcases hin j with h | ⟨h, _⟩
    · exact h.le
    · exact h.le
  · rcases hin j with h | ⟨_, h⟩
    · exact h
    · refine absurd h (not_le.2 ?_)
      show (BitVec.ofNat 32 j.val).toInt < (BitVec.ofNat 32 k.val).toInt
      rw [StableHlo.Predicate.toInt_ofNat_small _ (by omega), StableHlo.Predicate.toInt_ofNat_small _ (by omega)]
      exact_mod_cast hj

/-! ## The table read at the places -/

theorem places_apply (n : IVec S4194304 32) (r : Fin 4194304) (c : Fin 1) (k : Fin 16) (h : n (ix1 r) = BitVec.ofNat 32 k.val) :
    places n (ix2 r c) = BitVec.ofNat 32 k.val := by
  unfold places
  rw [broadcastInDim_apply ![0] bcast_S4194304_S4194304x1_0 _ (ix2 r c) (ix1 r) (fun a => by
    have : a = 0 := Subsingleton.elim _ _
    subst this; rfl)]
  show Scalar.select (IntOp.cmpi .slt (n (ix1 r)) 0#32) (IntOp.addi (n (ix1 r)) 16#32) (n (ix1 r)) = _
  rw [h]
  clear h
  revert k
  decide

theorem taken_apply (t : FVec Ideal S16 .f32) (n : IVec S4194304 32) (hn : ∀ r : Fin 4194304, ∃ k : Fin 16, n (ix1 r) = BitVec.ofNat 32 k.val)
    (r : Fin 4194304) (k : Fin 16) (h : n (ix1 r) = BitVec.ofNat 32 k.val) : taken t n (ix1 r) = t (ix1 k) := by
  unfold taken
  rw [select_apply, Host.reduce_andi_one _ _ _ _ _ rfl (fun i => by
    rw [eq_ix2 i]
    obtain ⟨k, hk⟩ := hn (i 0)
    show IntOp.andi (IntOp.cmpi .sge (places n (ix2 (i 0) (i 1))) 0#32) (IntOp.cmpi .sle (places n (ix2 (i 0) (i 1))) 15#32) = 1#1
    rw [places_apply n (i 0) (i 1) k hk]
    clear hk
    revert k
    decide), select_one]
  have hr : (ix1 r : S4194304.Idx) = Shape.Idx.ofFin r := by funext b; match b with | ⟨0, _⟩ => rfl
  rw [hr, StableHlo.Predicate.gather_take _ rfl rfl rfl rfl t (places n) r (by decide)]
  congr 1
  funext b
  match b with
  | ⟨0, _⟩ =>
    refine Fin.ext ?_
    show min (places n (StableHlo.Predicate.ixP r)).toInt.toNat (16 - 1) = k.val
    have hx : (StableHlo.Predicate.ixP r : S4194304x1.Idx) = ix2 r 0 := by funext b; match b with | ⟨0, _⟩ => rfl | ⟨1, _⟩ => rfl
    rw [hx, places_apply n r 0 k h, StableHlo.Predicate.toInt_ofNat_small _ (by omega)]
    omega

/-! ## The result -/

theorem scale_apply (s : FVec Ideal S1x1x2048 .f32) (p q : Fin 2048) :
    broadcastInDim S1x2048x2048 ![0, 1, 2] bcast_S1x1x2048_S1x2048x2048_0_1_2 s (ix3 0 p q) = s (ix3 0 0 q) :=
  broadcastInDim_apply _ _ s _ _ fun a => by match a with | ⟨0, _⟩ => rfl | ⟨1, _⟩ => rfl | ⟨2, _⟩ => rfl

/-- The row of an element. -/
def row (p q : Fin 2048) : Fin 4194304 := ⟨p.val * 2048 + q.val, by omega⟩

theorem dist_apply (x : FVec Ideal S1x2048x2048 .f32) (s : FVec Ideal S1x1x2048 .f32) (t : FVec Ideal S16 .f32)
    (ht : ∀ k : Fin 16, (t (ix1 k) : EReal) = (code k : EReal)) (p q : Fin 2048) (k : Fin 16) :
    (dist x s t (ix2 (row p q) k) : EReal) = far (Ideal.div (x (ix3 0 p q)) (s (ix3 0 0 q))) k := by
  unfold dist
  have e1 : broadcastInDim S4194304x16 ![0, 1] bcast_S4194304x1_S4194304x16_0_1
      (shapeCast S4194304x1 (Host.divf x (broadcastInDim S1x2048x2048 ![0, 1, 2] bcast_S1x1x2048_S1x2048x2048_0_1_2 s))
        shapeCasts_S1x2048x2048_S4194304x1) (ix2 (row p q) k) = Ideal.div (x (ix3 0 p q)) (s (ix3 0 0 q)) := by
    rw [broadcastInDim_apply _ _ _ (ix2 (row p q) k) (ix2 (row p q) 0) (fun a => by match a with | ⟨0, _⟩ => rfl | ⟨1, _⟩ => rfl),
      shapeCast_apply (s := S1x2048x2048) (t := S4194304x1) _ _ (ix2 (row p q) 0) (ix3 0 p q) (by
        rw [Shape.rowMajor_val_three, Shape.rowMajor_val_two]
        show ((0 * 2048 + p.val) * 2048 + q.val : ℕ) = (p.val * 2048 + q.val) * 1 + 0
        omega)]
    show Ideal.div (x (ix3 0 p q)) (broadcastInDim S1x2048x2048 ![0, 1, 2] bcast_S1x1x2048_S1x2048x2048_0_1_2 s (ix3 0 p q)) = _
    rw [scale_apply]
  have e2 : (broadcastInDim S4194304x16 ![0, 1] bcast_S1x16_S4194304x16_0_1 (shapeCast S1x16 t shapeCasts_S16_S1x16) (ix2 (row p q) k) : EReal)
      = (code k : EReal) := by
    rw [broadcastInDim_apply _ _ _ (ix2 (row p q) k) (ix2 0 k) (fun a => by match a with | ⟨0, _⟩ => rfl | ⟨1, _⟩ => rfl),
      shapeCast_apply (s := S16) (t := S1x16) _ _ (ix2 0 k) (ix1 k) (by
        rw [Shape.rowMajor_val_one, Shape.rowMajor_val_two]
        show (k.val : ℕ) = 0 * 16 + k.val
        omega), ht]
  show max (_ - _ : EReal) (-(_ - _)) = _
  rw [e1, e2]
  rfl

/-- A column of codes, shaped as the result and multiplied by the scales. -/
theorem scaled_apply (v : FVec Ideal S4194304 .f32) (s : FVec Ideal S1x1x2048 .f32) (p q : Fin 2048) :
    (mulf (shapeCast S1x2048x2048 v shapeCasts_S4194304_S1x2048x2048)
      (broadcastInDim S1x2048x2048 ![0, 1, 2] bcast_S1x1x2048_S1x2048x2048_0_1_2 s) (ix3 0 p q) : EReal) = (v (ix1 (row p q)) : EReal) * s (ix3 0 0 q) := by
  show (shapeCast S1x2048x2048 v shapeCasts_S4194304_S1x2048x2048 (ix3 0 p q) : EReal)
    * broadcastInDim S1x2048x2048 ![0, 1, 2] bcast_S1x1x2048_S1x2048x2048_0_1_2 s (ix3 0 p q) = _
  rw [scale_apply, shapeCast_apply (s := S4194304) (t := S1x2048x2048) _ _ (ix3 0 p q) (ix1 (row p q)) (by
    rw [Shape.rowMajor_val_three, Shape.rowMajor_val_one]
    show (p.val * 2048 + q.val : ℕ) = (0 * 2048 + p.val) * 2048 + q.val
    omega)]

theorem out_scaled (x : FVec Ideal S1x2048x2048 .f32) (s : FVec Ideal S1x1x2048 .f32) (t : FVec Ideal S16 .f32) (v : FVec Ideal S4194304 .f32)
    (hv : taken t (nearest (dist x s t)) = v) (p q : Fin 2048) :
    (out x s t (ix3 0 p q) : EReal) = (v (ix1 (row p q)) : EReal) * s (ix3 0 0 q) := by
  unfold out
  rw [hv]
  exact scaled_apply v s p q

/-- The result at an element: the first nearest code times the column's scale. -/
theorem out_apply (x : FVec Ideal S1x2048x2048 .f32) (s : FVec Ideal S1x1x2048 .f32) (t : FVec Ideal S16 .f32)
    (ht : ∀ k : Fin 16, (t (ix1 k) : EReal) = (code k : EReal)) (p q : Fin 2048) :
    ∃ k : Fin 16, First (Ideal.div (x (ix3 0 p q)) (s (ix3 0 0 q))) k ∧ (out x s t (ix3 0 p q) : EReal) = (code k : EReal) * s (ix3 0 0 q) := by
  obtain ⟨k, hk, hle, hlt⟩ := nearest_row (dist x s t) (row p q)
  refine ⟨k, ⟨fun j => ?_, fun j hj => ?_⟩, ?_⟩
  · have := hle j
    rwa [dist_apply x s t ht, dist_apply x s t ht] at this
  · have := hlt j hj
    rwa [dist_apply x s t ht, dist_apply x s t ht] at this
  · refine (out_scaled x s t _ rfl p q).trans ?_
    have e := taken_apply t _ (fun r => (nearest_row (dist x s t) r).imp fun _ h => h.1) _ k hk
    exact congrArg (fun z : EReal => z * (s (ix3 0 0 q) : EReal)) (e.trans (ht k))

end Cert.Proof.R

end
-- ==== Proof.Ready.lean ====
/-
  What the precondition says of the arguments, element by element.
-/
module

public import proofs.«01_k».proof.Pre_ready
public import proofs.«01_k».proof.Proof.Scalar
public import Idealize.ShloMosaic.Lib.ReduceAll
public import Idealize.ShloMosaic.Lib.Pipeline.Value

@[expose] public section

noncomputable section

namespace Cert.Proof.Q

open Cert.Pre_ready
open Idealize.ShloMosaic Idealize.ShloMosaic.ValueIdx
open Cert.Proof.V (code NoTie NoTieE)

/-! ## Comparisons and literals over the extended reals -/

theorem oeq_iff (a b : EReal) : FloatOps.cmpf (F := Ideal) (φ := .f32) .oeq a b = 1#1 ↔ a = b := by
  rw [Ideal.cmpf_def]
  by_cases h : a = b <;> simp [Ideal.cmp, h]
theorem oge_iff (a b : EReal) : FloatOps.cmpf (F := Ideal) (φ := .f32) .oge a b = 1#1 ↔ b ≤ a := by
  rw [Ideal.cmpf_def]
  by_cases h : b ≤ a <;> simp [Ideal.cmp, h]
theorem olt_iff (a b : EReal) : FloatOps.cmpf (F := Ideal) (φ := .f32) .olt a b = 1#1 ↔ a < b := by
  rw [Ideal.cmpf_def]
  by_cases h : a < b <;> simp [Ideal.cmp, h]

theorem lit_inf : (FloatOps.ofBits (F := Ideal) .f32 0x7F800000#32 : EReal) = ⊤ := by
  show Ideal.ofBits .f32 _ = _
  simp [Ideal.ofBits, Ideal.ieee]
theorem lit_zero : (FloatOps.ofBits (F := Ideal) .f32 0x00000000#32 : EReal) = 0 := by
  show Ideal.ofBits .f32 _ = _
  simp [Ideal.ofBits, Ideal.ieee]
theorem lit_a : (FloatOps.ofBits (F := Ideal) .f32 0x3F400000#32 : EReal) = ((3 / 4 : ℝ) : EReal) := by
  show Ideal.ofBits .f32 _ = _
  simp [Ideal.ofBits, Ideal.ieee, -EReal.coe_mul]; norm_num
theorem lit_b : (FloatOps.ofBits (F := Ideal) .f32 0x3FE00000#32 : EReal) = ((7 / 4 : ℝ) : EReal) := by
  show Ideal.ofBits .f32 _ = _
  simp [Ideal.ofBits, Ideal.ieee, -EReal.coe_mul]; norm_num
theorem lit_c : (FloatOps.ofBits (F := Ideal) .f32 0x40600000#32 : EReal) = ((7 / 2 : ℝ) : EReal) := by
  show Ideal.ofBits .f32 _ = _
  simp [Ideal.ofBits, Ideal.ieee, -EReal.coe_mul]; norm_num
theorem lit_d : (FloatOps.ofBits (F := Ideal) .f32 0x40A00000#32 : EReal) = ((5 : ℝ) : EReal) := by
  show Ideal.ofBits .f32 _ = _
  simp [Ideal.ofBits, Ideal.ieee, -EReal.coe_mul]; norm_num
theorem lit_e : (FloatOps.ofBits (F := Ideal) .f32 0xBE800000#32 : EReal) = ((-1 / 4 : ℝ) : EReal) := by
  show Ideal.ofBits .f32 _ = _
  simp [Ideal.ofBits, Ideal.ieee, -EReal.coe_mul, -EReal.coe_neg]; norm_num
theorem lit_f : (FloatOps.ofBits (F := Ideal) .f32 0xBFA00000#32 : EReal) = ((-5 / 4 : ℝ) : EReal) := by
  show Ideal.ofBits .f32 _ = _
  simp [Ideal.ofBits, Ideal.ieee, -EReal.coe_mul, -EReal.coe_neg]; norm_num
theorem lit_g : (FloatOps.ofBits (F := Ideal) .f32 0xC0200000#32 : EReal) = ((-5 / 2 : ℝ) : EReal) := by
  show Ideal.ofBits .f32 _ = _
  simp [Ideal.ofBits, Ideal.ieee, -EReal.coe_mul, -EReal.coe_neg]; norm_num

theorem word_0 : (Ideal.ofBits .f32 0xC0C00000#32 : EReal) = ((-6 : ℝ) : EReal) := by
  simp [Ideal.ofBits, Ideal.ieee, -EReal.coe_mul, -EReal.coe_neg]; norm_num
theorem word_1 : (Ideal.ofBits .f32 0xC0800000#32 : EReal) = ((-4 : ℝ) : EReal) := by
  simp [Ideal.ofBits, Ideal.ieee, -EReal.coe_mul, -EReal.coe_neg]; norm_num
theorem word_2 : (Ideal.ofBits .f32 0xC0400000#32 : EReal) = ((-3 : ℝ) : EReal) := by
  simp [Ideal.ofBits, Ideal.ieee, -EReal.coe_mul, -EReal.coe_neg]; norm_num
theorem word_3 : (Ideal.ofBits .f32 0xC0000000#32 : EReal) = ((-2 : ℝ) : EReal) := by
  simp [Ideal.ofBits, Ideal.ieee, -EReal.coe_mul, -EReal.coe_neg]; norm_num
theorem word_4 : (Ideal.ofBits .f32 0xBFC00000#32 : EReal) = ((-3 / 2 : ℝ) : EReal) := by
  simp [Ideal.ofBits, Ideal.ieee, -EReal.coe_mul, -EReal.coe_neg]; norm_num
theorem word_5 : (Ideal.ofBits .f32 0xBF800000#32 : EReal) = ((-1 : ℝ) : EReal) := by
  simp [Ideal.ofBits, Ideal.ieee, -EReal.coe_mul, -EReal.coe_neg]; norm_num
theorem word_6 : (Ideal.ofBits .f32 0xBF000000#32 : EReal) = ((-1 / 2 : ℝ) : EReal) := by
  simp [Ideal.ofBits, Ideal.ieee, -EReal.coe_mul, -EReal.coe_neg]; norm_num
theorem word_7 : (Ideal.ofBits .f32 0x80000000#32 : EReal) = ((0 : ℝ) : EReal) := by
  simp [Ideal.ofBits, Ideal.ieee, -EReal.coe_mul, -EReal.coe_neg]
theorem word_8 : (Ideal.ofBits .f32 0x00000000#32 : EReal) = ((0 : ℝ) : EReal) := by
  simp [Ideal.ofBits, Ideal.ieee, -EReal.coe_mul, -EReal.coe_neg]
theorem word_9 : (Ideal.ofBits .f32 0x3F000000#32 : EReal) = ((1 / 2 : ℝ) : EReal) := by
  simp [Ideal.ofBits, Ideal.ieee, -EReal.coe_mul, -EReal.coe_neg]; norm_num
theorem word_10 : (Ideal.ofBits .f32 0x3F800000#32 : EReal) = ((1 : ℝ) : EReal) := by
  simp [Ideal.ofBits, Ideal.ieee, -EReal.coe_mul, -EReal.coe_neg]; norm_num
theorem word_11 : (Ideal.ofBits .f32 0x3FC00000#32 : EReal) = ((3 / 2 : ℝ) : EReal) := by
  simp [Ideal.ofBits, Ideal.ieee, -EReal.coe_mul, -EReal.coe_neg]; norm_num
theorem word_12 : (Ideal.ofBits .f32 0x40000000#32 : EReal) = ((2 : ℝ) : EReal) := by
  simp [Ideal.ofBits, Ideal.ieee, -EReal.coe_mul, -EReal.coe_neg]; norm_num
theorem word_13 : (Ideal.ofBits .f32 0x40400000#32 : EReal) = ((3 : ℝ) : EReal) := by
  simp [Ideal.ofBits, Ideal.ieee, -EReal.coe_mul, -EReal.coe_neg]; norm_num
theorem word_14 : (Ideal.ofBits .f32 0x40800000#32 : EReal) = ((4 : ℝ) : EReal) := by
  simp [Ideal.ofBits, Ideal.ieee, -EReal.coe_mul, -EReal.coe_neg]; norm_num
theorem word_15 : (Ideal.ofBits .f32 0x40C00000#32 : EReal) = ((6 : ℝ) : EReal) := by
  simp [Ideal.ofBits, Ideal.ieee, -EReal.coe_mul, -EReal.coe_neg]; norm_num

/-- The table's words are the codes. -/
theorem lit_code (k : Fin 16) : (FloatOps.ofBits (F := Ideal) .f32 (lit0 k) : EReal) = ((code k : ℝ) : EReal) := by
  show Ideal.ofBits .f32 (lit0 k) = _
  match k with
  | 0 => exact word_0
  | 1 => exact word_1
  | 2 => exact word_2
  | 3 => exact word_3
  | 4 => exact word_4
  | 5 => exact word_5
  | 6 => exact word_6
  | 7 => exact word_7
  | 8 => exact word_8
  | 9 => exact word_9
  | 10 => exact word_10
  | 11 => exact word_11
  | 12 => exact word_12
  | 13 => exact word_13
  | 14 => exact word_14
  | 15 => exact word_15
  | ⟨n + 16, h⟩ => exact absurd h (by omega)

theorem place_eq (k : Fin 16) : lit0 (S16.rowMajor (ix1 k)) = lit0 k :=
  congrArg lit0 (Fin.ext (Shape.rowMajor_val_one _))

/-! ## The precondition -/

variable [Facts]

instance : Subsingleton S_.Idx := ⟨fun a b => (eq_ix0 a).trans (eq_ix0 b).symm⟩

/-- The precondition's four parts: the table, the scales, the elements and the quotients. -/
theorem parts (x : FVec Ideal S1x2048x2048 .f32) (s : FVec Ideal S1x1x2048 .f32) (t : FVec Ideal S16 .f32)
    (h : fn (F := Ideal) x s t = fun _ => 1#1) :
    (∀ k : Fin 16, (t (ix1 k) : EReal) = ((code k : ℝ) : EReal)) ∧ (∀ q : Fin 2048, 0 ≤ (s (ix3 0 0 q) : EReal))
      ∧ (∀ p q : Fin 2048, (x (ix3 0 p q) : EReal) < ⊤) ∧ ∀ p q : Fin 2048, NoTieE (Ideal.div (x (ix3 0 p q)) (s (ix3 0 0 q))) := by
  have e := congrFun h ix0
  simp only [fn, fn_part1, fn_part2, andi] at e
  obtain ⟨e, c4⟩ := IntOp.andi_eq_one.1 e
  obtain ⟨e, c3⟩ := IntOp.andi_eq_one.1 e
  obtain ⟨c1, c2⟩ := IntOp.andi_eq_one.1 e
  refine ⟨fun k => ?_, fun q => ?_, fun p q => ?_, fun p q => ?_⟩
  · have a := Host.reduce_andi_all _ _ _ _ _ c1 (ix1 k)
    rw [cmpf_apply, oeq_iff, place_eq, lit_code] at a
    exact a
  · have a := Host.reduce_andi_all _ _ _ _ _ c2 (ix3 0 0 q)
    rw [cmpf_apply, oge_iff] at a
    exact lit_zero ▸ a
  · have a := Host.reduce_andi_all _ _ _ _ _ c3 (ix3 0 p q)
    rw [cmpf_apply, olt_iff] at a
    exact lit_inf ▸ a
  · have a := Host.reduce_andi_all _ _ _ _ _ c4 (ix3 0 p q)
    have hq : Host.divf x (broadcastInDim S1x2048x2048 ![0, 1, 2] Facts.bcast_S1x1x2048_S1x2048x2048_0_1_2 s) (ix3 0 p q)
        = Ideal.div (x (ix3 0 p q)) (s (ix3 0 0 q)) := by
      show Ideal.div (x (ix3 0 p q)) (broadcastInDim S1x2048x2048 ![0, 1, 2] Facts.bcast_S1x1x2048_S1x2048x2048_0_1_2 s (ix3 0 p q)) = _
      rw [broadcastInDim_apply _ _ s _ (ix3 0 0 q) fun a => by match a with | ⟨0, _⟩ => rfl | ⟨1, _⟩ => rfl | ⟨2, _⟩ => rfl]
    have a := IntOp.not_eq_one.1 a
    simp only [ori, cmpf_apply, IntOp.ori_eq_one, oeq_iff, hq, not_or] at a
    obtain ⟨⟨⟨⟨⟨⟨ha, hb⟩, hc⟩, hd⟩, he⟩, hf⟩, hg⟩ := a
    intro r hr
    rw [hr] at ha hb hc hd he hf hg
    exact ⟨fun c => ha (c ▸ lit_a.symm), fun c => hb (c ▸ lit_b.symm), fun c => hc (c ▸ lit_c.symm), fun c => hd (c ▸ lit_d.symm),
      fun c => he (c ▸ lit_e.symm), fun c => hf (c ▸ lit_f.symm), fun c => hg (c ▸ lit_g.symm)⟩

end Cert.Proof.Q

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ready
public import proofs.«01_k».proof.Proof.RefRun
public import proofs.«01_k».proof.Proof.Same
public import proofs.«01_k».proof.Proof.Launch
public import proofs.«01_k».proof.Proof.Result
public import proofs.«01_k».proof.Proof.RefValue
public import proofs.«01_k».proof.Proof.Ready

@[expose] public section

noncomputable section

namespace Cert.Proof

open Idealize.ShloMosaic Idealize.SL.Sem

/-- The program's run with the value dropped, at any float values. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).1, (h.1 c).2.1, (h.1 c).2.2.1⟩, h.2⟩) (K.run_main m ρ)

theorem frame_kernel : Cert.quiescent_Kernel := by
  intro m ρ _
  rw [defs_eq]
  exact frame_any (F := Bits) m ρ

theorem frame_kernelIdeal : Cert.quiescent_KernelIdeal := fun m ρ _ => frame_any (F := Ideal) m ρ

theorem frame_reference : Cert.quiescent_ReferenceIdeal := fun m ρ _ =>
  (θ_run Cert.ReferenceIdeal.defs _ _).mono (fun _ h => ⟨fun c => (h.1 c).2, h.2⟩) (R.run_main (F := Ideal) m ρ)

theorem frame_kernelIdeal_ready : Cert.quiescent_KernelIdeal_pre_ready (hPre_ready := Cert.Pre_ready.Gen.facts) := fun m ρ _ => frame_any (F := Ideal) m ρ

theorem frame_reference_ready : Cert.quiescent_ReferenceIdeal_pre_ready (hPre_ready := Cert.Pre_ready.Gen.facts) := fun m ρ _ =>
  (θ_run Cert.ReferenceIdeal.defs _ _).mono (fun _ h => ⟨fun c => (h.1 c).2, h.2⟩) (R.run_main (F := Ideal) m ρ)

/-- The kernel's result is the reference's function of the arguments. -/
theorem result_eq (m : (ℓ : Loc Cert.KernelIdeal.nD Cert.KernelIdeal.τ Cert.KernelIdeal.sig) → Buf (Elt Ideal) ℓ) (c : Dev Cert.KernelIdeal.nD)
    (x : FVec Ideal Cert.KernelIdeal.S1x2048x2048 .f32) (s : FVec Ideal Cert.KernelIdeal.S1x1x2048 .f32) (t : FVec Ideal Cert.KernelIdeal.S16 .f32)
    (hx : m ((c.tc : Thread Cert.KernelIdeal.nD Cert.KernelIdeal.τ).loc Cert.KernelIdeal.main_arg0) = x)
    (hs : m ((c.tc : Thread Cert.KernelIdeal.nD Cert.KernelIdeal.τ).loc Cert.KernelIdeal.main_arg1) = s)
    (h : @Cert.Pre_ready.fn Cert.Pre_ready.Gen.facts Ideal _ x s t = fun _ => 1#1) :
    K.W7 m c K.v5' = R.out x s t := by
  obtain ⟨ht, hs0, hxt, hq⟩ := @Q.parts Cert.Pre_ready.Gen.facts x s t h
  refine funext fun i => ?_
  obtain ⟨p, q, rfl⟩ : ∃ p q : Fin 2048, i = ValueIdx.ix3 0 p q := ⟨i 1, i 2, by
    rw [ValueIdx.eq_ix3 i]
    exact congrArg (fun z => ValueIdx.ix3 z (i 1) (i 2)) (Subsingleton.elim (α := Fin 1) _ _)⟩
  obtain ⟨k, hk, e⟩ := R.out_apply x s t ht p q
  obtain ⟨v1, v2⟩ := V.value (x (ValueIdx.ix3 0 p q)) (s (ValueIdx.ix3 0 0 q)) (hs0 q) (hxt p q) (hq p q) k hk
  refine (K.W7_out m c p q).trans ?_
  refine Eq.trans ?_ e.symm
  subst hx hs
  split
  · exact v1
  · exact v2

/-- Over the extended reals the kernel and the reference end with the same result. -/
theorem same : Cert.algebraic_KernelIdeal_ReferenceIdeal_pre_ready (hPre_ready := Cert.Pre_ready.Gen.facts) := by
  intro m ρ m' ρ' hp hargs
  refine ⟨fun c => K.W7 m c K.v5', ?_, ?_⟩
  · exact (θ_run Cert.KernelIdeal.defs _ _).mono (fun _ h c => ⟨(h.1 c).2.2.2, (h.1 c).1, (h.1 c).2.1, (h.1 c).2.2.1⟩) (K.run_main (F := Ideal) m ρ)
  · refine (θ_run Cert.ReferenceIdeal.defs _ _).mono (fun _ h c => ⟨(h.1 c).1.trans ?_, (h.1 c).2⟩) (R.run_main (F := Ideal) m' ρ')
    obtain ⟨h0, h1, h2⟩ := hargs c
    rw [h0, h1, h2]
    exact (result_eq m c _ _ _ rfl rfl (hp c)).symm

theorem claim : Cert.Claim := ⟨Cert.Kernel.Gen.facts, Cert.KernelIdeal.Gen.facts, Cert.ReferenceIdeal.Gen.facts, Cert.Pre_ready.Gen.facts,
  frame_kernel, frame_kernelIdeal, frame_kernelIdeal_ready, frame_reference, frame_reference_ready, trivial, same⟩

end Cert.Proof

end
